-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 256, 128, 64]⟩ 2 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 256, 128, 64]⟩ 2 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x8192 : Shape := ⟨2, ![512, 8192]⟩
abbrev S2x256x4x64 : Shape := ⟨4, ![2, 256, 4, 64]⟩
abbrev S8192x512 : Shape := ⟨2, ![8192, 512]⟩
abbrev S_ : Shape := ⟨0, ![]⟩
abbrev S512x256 : Shape := ⟨2, ![512, 256]⟩
abbrev S256x512 : Shape := ⟨2, ![256, 512]⟩
abbrev S2x256x256 : Shape := ⟨3, ![2, 256, 256]⟩
abbrev S2x4x256x256 : Shape := ⟨4, ![2, 4, 256, 256]⟩
abbrev S256x256 : Shape := ⟨2, ![256, 256]⟩
abbrev S1x1x256x256 : Shape := ⟨4, ![1, 1, 256, 256]⟩
abbrev S2x4x256 : Shape := ⟨3, ![2, 4, 256]⟩
abbrev S2x4x256x1 : Shape := ⟨4, ![2, 4, 256, 1]⟩
abbrev S2x4x64x256 : Shape := ⟨4, ![2, 4, 64, 256]⟩
abbrev S512x512 : Shape := ⟨2, ![512, 512]⟩
abbrev S31x16x512 : Shape := ⟨3, ![31, 16, 512]⟩
abbrev S31 : Shape := ⟨1, ![31]⟩
abbrev S1 : Shape := ⟨1, ![1]⟩
abbrev S1x16x512 : Shape := ⟨3, ![1, 16, 512]⟩
abbrev S16x512 : Shape := ⟨2, ![16, 512]⟩

abbrev nBuf : Space → Nat
  | .hbm => 80
  | .vmem => 3
  | .smem => 0
  | _ => 0

abbrev bufTy : (tb : Table) → Fin (tcTables nBuf tb) → BufTy
  | .hbm, ⟨0, _⟩ => ⟨S2x256x512, .bf16⟩
  | .hbm, ⟨1, _⟩ => ⟨S512x8192, .bf16⟩
  | .hbm, ⟨2, _⟩ => ⟨S2x256x4x64, .bf16⟩
  | .hbm, ⟨3, _⟩ => ⟨S2x256x4x64, .bf16⟩
  | .hbm, ⟨4, _⟩ => ⟨S8192x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S512x256, .bf16⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S256x512, .bf16⟩
  | .hbm, ⟨29, _⟩ => ⟨S2x256x256, .f32⟩
  | .hbm, ⟨30, _⟩ => ⟨S2x256x256, .bf16⟩
  | .hbm, ⟨31, _⟩ => ⟨S2x256x4x64, .bf16⟩
  | .hbm, ⟨32, _⟩ => ⟨S2x4x256x256, .f32⟩
  | .hbm, ⟨33, _⟩ => ⟨S_, .f32⟩
  | .hbm, ⟨34, _⟩ => ⟨S2x4x256x256, .f32⟩
  | .hbm, ⟨35, _⟩ => ⟨S2x4x256x256, .f32⟩
  | .hbm, ⟨36, _⟩ => ⟨S256x256, .i32⟩
  | .hbm, ⟨37, _⟩ => ⟨S256x256, .i32⟩
  | .hbm, ⟨38, _⟩ => ⟨S256x256, .i32⟩
  | .hbm, ⟨39, _⟩ => ⟨S256x256, .i32⟩
  | .hbm, ⟨40, _⟩ => ⟨S_, .i32⟩
  | .hbm, ⟨41, _⟩ => ⟨S256x256, .i32⟩
  | .hbm, ⟨42, _⟩ => ⟨S256x256, .i1⟩
  | .hbm, ⟨43, _⟩ => ⟨S_, .i32⟩
  | .hbm, ⟨44, _⟩ => ⟨S256x256, .i32⟩
  | .hbm, ⟨45, _⟩ => ⟨S256x256, .i1⟩
  | .hbm, ⟨46, _⟩ => ⟨S256x256, .i1⟩
  | .hbm, ⟨47, _⟩ => ⟨S_, .i32⟩
  | .hbm, ⟨48, _⟩ => ⟨S256x256, .i32⟩
  | .hbm, ⟨49, _⟩ => ⟨S256x256, .i1⟩
  | .hbm, ⟨50, _⟩ => ⟨S256x256, .i1⟩
  | .hbm, ⟨51, _⟩ => ⟨S1x1x256x256, .i1⟩
  | .hbm, ⟨52, _⟩ => ⟨S_, .f32⟩
  | .hbm, ⟨53, _⟩ => ⟨S_, .f32⟩
  | .hbm, ⟨54, _⟩ => ⟨S2x4x256x256, .i1⟩
  | .hbm, ⟨55, _⟩ => ⟨S2x4x256x256, .f32⟩
  | .hbm, ⟨56, _⟩ => ⟨S2x4x256x256, .f32⟩
  | .hbm, ⟨57, _⟩ => ⟨S_, .f32⟩
  | .hbm, ⟨58, _⟩ => ⟨S2x4x256, .f32⟩
  | .hbm, ⟨59, _⟩ => ⟨S_, .f32⟩
  | .hbm, ⟨60, _⟩ => ⟨S2x4x256, .f32⟩
  | .hbm, ⟨61, _⟩ => ⟨S2x4x256, .f32⟩
  | .hbm, ⟨62, _⟩ => ⟨S2x4x256x1, .f32⟩
  | .hbm, ⟨63, _⟩ => ⟨S2x4x256x256, .f32⟩
  | .hbm, ⟨64, _⟩ => ⟨S2x4x256x256, .f32⟩
  | .hbm, ⟨65, _⟩ => ⟨S2x4x256x256, .f32⟩
  | .hbm, ⟨66, _⟩ => ⟨S_, .f32⟩
  | .hbm, ⟨67, _⟩ => ⟨S2x4x256, .f32⟩
  | .hbm, ⟨68, _⟩ => ⟨S2x4x256x1, .f32⟩
  | .hbm, ⟨69, _⟩ => ⟨S2x4x256x256, .f32⟩
  | .hbm, ⟨70, _⟩ => ⟨S2x4x256x256, .f32⟩
  | .hbm, ⟨71, _⟩ => ⟨S2x4x256x256, .bf16⟩
  | .hbm, ⟨72, _⟩ => ⟨S2x4x64x256, .f32⟩
  | .hbm, ⟨73, _⟩ => ⟨S2x256x4x64, .f32⟩
  | .hbm, ⟨74, _⟩ => ⟨S2x256x256, .f32⟩
  | .hbm, ⟨75, _⟩ => ⟨S2x256x256, .bf16⟩
  | .hbm, ⟨76, _⟩ => ⟨S2x256x512, .f32⟩
  | .hbm, ⟨77, _⟩ => ⟨S512x512, .f32⟩
  | .hbm, ⟨78, _⟩ => ⟨S512x512, .f32⟩
  | .hbm, ⟨79, _⟩ => ⟨S2x256x512, .f32⟩
  | .local _ .vmem, ⟨0, _⟩ => ⟨S512x512, .f32⟩
  | .local _ .vmem, ⟨1, _⟩ => ⟨S512x512, .f32⟩
  | .local _ .vmem, ⟨2, _⟩ => ⟨S31x16x512, .f32⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 126 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | _ => false

abbrev sig : RefSig :=
  (ofTc nBuf bufTy 1 126 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_9 : Ref sig .tc := ⟨.hbm, 40, rfl⟩
abbrev main_v25 : Ref sig .tc := ⟨.hbm, 41, rfl⟩
abbrev main_v26 : Ref sig .tc := ⟨.hbm, 42, rfl⟩
abbrev main_c_10 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_11 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_12 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v34 : Ref sig .tc := ⟨.hbm, 56, rfl⟩
abbrev main_cst_13 : Ref sig .tc := ⟨.hbm, 57, rfl⟩
abbrev main_v35 : Ref sig .tc := ⟨.hbm, 58, rfl⟩
abbrev main_cst_14 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_15 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_13 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v16 : BitVec 32 := Scalar.subi v2 c0_i32_13
  let c64_i32 : BitVec 32 := 64#32
  let v17 : BitVec 32 := Scalar.addi v16 c64_i32
  let c32_i32_14 : BitVec 32 := 32#32
  let v18 : BitVec 32 := Scalar.remsi v17 c32_i32_14
  let c16_i32 : BitVec 32 := 16#32
  let v23 : BitVec 32 := Scalar.muli v18 c16_i32
  let c0_i32_26 : BitVec 32 := 0#32
  ![v23.toNat, 0]
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_22 : BitVec 32 := 1#32
  let v24 : BitVec 32 := Scalar.muli v7 c1_i32_22
  let v25 : BitVec 32 := Scalar.addi c0_i32_23 v24
  v25.toNat
def k0_off2 (d0 : Dev nD) (c0_i32_15 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v19 : BitVec 32 := Scalar.subi v2 c0_i32_15
  let c1_i32_16 : BitVec 32 := 1#32
  let v20 : BitVec 32 := Scalar.subi v19 c1_i32_16
  let c64_i32_17 : BitVec 32 := 64#32
  let v21 : BitVec 32 := Scalar.addi v20 c64_i32_17
  let c32_i32_18 : BitVec 32 := 32#32
  let v22 : BitVec 32 := Scalar.remsi v21 c32_i32_18
  let c16_i32_42 : BitVec 32 := 16#32
  let v45 : BitVec 32 := Scalar.muli v22 c16_i32_42
  let v46 : Index := Scalar.indexCast v45
  let c0_43 : Index := 0#32
  ![v46.toNat, 0]
def k0_dev4 (d0 : Dev nD) : Nat :=
  let c0_i32_61 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_60 : BitVec 32 := 1#32
  let v63 : BitVec 32 := Scalar.muli v7 c1_i32_60
  let v64 : BitVec 32 := Scalar.addi c0_i32_61 v63
  v64.toNat
def k0_dev5 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_97 : BitVec 32 := 1#32
  let v102 : BitVec 32 := Scalar.muli v7 c1_i32_97
  let v103 : BitVec 32 := Scalar.addi c0_i32_98 v102
  v103.toNat
def k0_dev6 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_133 : BitVec 32 := 1#32
  let v141 : BitVec 32 := Scalar.muli v7 c1_i32_133
  let v142 : BitVec 32 := Scalar.addi c0_i32_134 v141
  v142.toNat
def k0_dev7 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_169 : BitVec 32 := 1#32
  let v180 : BitVec 32 := Scalar.muli v7 c1_i32_169
  let v181 : BitVec 32 := Scalar.addi c0_i32_170 v180
  v181.toNat
def k0_dev8 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_205 : BitVec 32 := 1#32
  let v219 : BitVec 32 := Scalar.muli v7 c1_i32_205
  let v220 : BitVec 32 := Scalar.addi c0_i32_206 v219
  v220.toNat
def k0_dev9 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_241 : BitVec 32 := 1#32
  let v258 : BitVec 32 := Scalar.muli v7 c1_i32_241
  let v259 : BitVec 32 := Scalar.addi c0_i32_242 v258
  v259.toNat
def k0_dev10 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_277 : BitVec 32 := 1#32
  let v297 : BitVec 32 := Scalar.muli v7 c1_i32_277
  let v298 : BitVec 32 := Scalar.addi c0_i32_278 v297
  v298.toNat
def k0_dev11 (d0 : Dev nD) : Nat :=
  let c0_i32_314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_313 : BitVec 32 := 1#32
  let v336 : BitVec 32 := Scalar.muli v7 c1_i32_313
  let v337 : BitVec 32 := Scalar.addi c0_i32_314 v336
  v337.toNat
def k0_dev12 (d0 : Dev nD) : Nat :=
  let c0_i32_350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_349 : BitVec 32 := 1#32
  let v375 : BitVec 32 := Scalar.muli v7 c1_i32_349
  let v376 : BitVec 32 := Scalar.addi c0_i32_350 v375
  v376.toNat
def k0_dev13 (d0 : Dev nD) : Nat :=
  let c0_i32_386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_385 : BitVec 32 := 1#32
  let v414 : BitVec 32 := Scalar.muli v7 c1_i32_385
  let v415 : BitVec 32 := Scalar.addi c0_i32_386 v414
  v415.toNat
def k0_dev14 (d0 : Dev nD) : Nat :=
  let c0_i32_422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_421 : BitVec 32 := 1#32
  let v453 : BitVec 32 := Scalar.muli v7 c1_i32_421
  let v454 : BitVec 32 := Scalar.addi c0_i32_422 v453
  v454.toNat
def k0_dev15 (d0 : Dev nD) : Nat :=
  let c0_i32_458 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_457 : BitVec 32 := 1#32
  let v492 : BitVec 32 := Scalar.muli v7 c1_i32_457
  let v493 : BitVec 32 := Scalar.addi c0_i32_458 v492
  v493.toNat
def k0_dev16 (d0 : Dev nD) : Nat :=
  let c0_i32_494 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_493 : BitVec 32 := 1#32
  let v531 : BitVec 32 := Scalar.muli v7 c1_i32_493
  let v532 : BitVec 32 := Scalar.addi c0_i32_494 v531
  v532.toNat
def k0_dev17 (d0 : Dev nD) : Nat :=
  let c0_i32_530 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_529 : BitVec 32 := 1#32
  let v570 : BitVec 32 := Scalar.muli v7 c1_i32_529
  let v571 : BitVec 32 := Scalar.addi c0_i32_530 v570
  v571.toNat
def k0_dev18 (d0 : Dev nD) : Nat :=
  let c0_i32_566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_565 : BitVec 32 := 1#32
  let v609 : BitVec 32 := Scalar.muli v7 c1_i32_565
  let v610 : BitVec 32 := Scalar.addi c0_i32_566 v609
  v610.toNat
def k0_dev19 (d0 : Dev nD) : Nat :=
  let c0_i32_603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_602 : BitVec 32 := 1#32
  let v648 : BitVec 32 := Scalar.muli v7 c1_i32_602
  let v649 : BitVec 32 := Scalar.addi c0_i32_603 v648
  v649.toNat
def k0_dev20 (d0 : Dev nD) : Nat :=
  let c0_i32_639 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_638 : BitVec 32 := 1#32
  let v687 : BitVec 32 := Scalar.muli v7 c1_i32_638
  let v688 : BitVec 32 := Scalar.addi c0_i32_639 v687
  v688.toNat
def k0_dev21 (d0 : Dev nD) : Nat :=
  let c0_i32_675 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_674 : BitVec 32 := 1#32
  let v726 : BitVec 32 := Scalar.muli v7 c1_i32_674
  let v727 : BitVec 32 := Scalar.addi c0_i32_675 v726
  v727.toNat
def k0_dev22 (d0 : Dev nD) : Nat :=
  let c0_i32_711 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_710 : BitVec 32 := 1#32
  let v765 : BitVec 32 := Scalar.muli v7 c1_i32_710
  let v766 : BitVec 32 := Scalar.addi c0_i32_711 v765
  v766.toNat
def k0_dev23 (d0 : Dev nD) : Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_746 : BitVec 32 := 1#32
  let v804 : BitVec 32 := Scalar.muli v7 c1_i32_746
  let v805 : BitVec 32 := Scalar.addi c0_i32_747 v804
  v805.toNat
def k0_dev24 (d0 : Dev nD) : Nat :=
  let c0_i32_783 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_782 : BitVec 32 := 1#32
  let v843 : BitVec 32 := Scalar.muli v7 c1_i32_782
  let v844 : BitVec 32 := Scalar.addi c0_i32_783 v843
  v844.toNat
def k0_dev25 (d0 : Dev nD) : Nat :=
  let c0_i32_819 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_818 : BitVec 32 := 1#32
  let v882 : BitVec 32 := Scalar.muli v7 c1_i32_818
  let v883 : BitVec 32 := Scalar.addi c0_i32_819 v882
  v883.toNat
def k0_dev26 (d0 : Dev nD) : Nat :=
  let c0_i32_855 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_854 : BitVec 32 := 1#32
  let v921 : BitVec 32 := Scalar.muli v7 c1_i32_854
  let v922 : BitVec 32 := Scalar.addi c0_i32_855 v921
  v922.toNat
def k0_dev27 (d0 : Dev nD) : Nat :=
  let c0_i32_891 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_890 : BitVec 32 := 1#32
  let v960 : BitVec 32 := Scalar.muli v7 c1_i32_890
  let v961 : BitVec 32 := Scalar.addi c0_i32_891 v960
  v961.toNat
def k0_dev28 (d0 : Dev nD) : Nat :=
  let c0_i32_927 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_926 : BitVec 32 := 1#32
  let v999 : BitVec 32 := Scalar.muli v7 c1_i32_926
  let v1000 : BitVec 32 := Scalar.addi c0_i32_927 v999
  v1000.toNat
def k0_dev29 (d0 : Dev nD) : Nat :=
  let c0_i32_963 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_962 : BitVec 32 := 1#32
  let v1038 : BitVec 32 := Scalar.muli v7 c1_i32_962
  let v1039 : BitVec 32 := Scalar.addi c0_i32_963 v1038
  v1039.toNat
def k0_dev30 (d0 : Dev nD) : Nat :=
  let c0_i32_999 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_998 : BitVec 32 := 1#32
  let v1077 : BitVec 32 := Scalar.muli v7 c1_i32_998
  let v1078 : BitVec 32 := Scalar.addi c0_i32_999 v1077
  v1078.toNat
def k0_dev31 (d0 : Dev nD) : Nat :=
  let c0_i32_1035 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1034 : BitVec 32 := 1#32
  let v1116 : BitVec 32 := Scalar.muli v7 c1_i32_1034
  let v1117 : BitVec 32 := Scalar.addi c0_i32_1035 v1116
  v1117.toNat
def k0_dev32 (d0 : Dev nD) : Nat :=
  let c0_i32_1071 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1070 : BitVec 32 := 1#32
  let v1155 : BitVec 32 := Scalar.muli v7 c1_i32_1070
  let v1156 : BitVec 32 := Scalar.addi c0_i32_1071 v1155
  v1156.toNat
def k0_dev33 (d0 : Dev nD) : Nat :=
  let c0_i32_1107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1106 : BitVec 32 := 1#32
  let v1194 : BitVec 32 := Scalar.muli v7 c1_i32_1106
  let v1195 : BitVec 32 := Scalar.addi c0_i32_1107 v1194
  v1195.toNat
def k0_off3 (d0 : Dev nD) (c0_i32_1133 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1132 : BitVec 32 := 1#32
  let v1225 : BitVec 32 := Scalar.addi v2 c1_i32_1132
  let v1226 : BitVec 32 := Scalar.subi v1225 c0_i32_1133
  let c64_i32_1134 : BitVec 32 := 64#32
  let v1227 : BitVec 32 := Scalar.addi v1226 c64_i32_1134
  let c32_i32_1135 : BitVec 32 := 32#32
  let v1228 : BitVec 32 := Scalar.remsi v1227 c32_i32_1135
  let c16_i32_1137 : BitVec 32 := 16#32
  let v1230 : BitVec 32 := Scalar.muli v1228 c16_i32_1137
  let c0_i32_1142 : BitVec 32 := 0#32
  ![v1230.toNat, 0]
def k0_dev34 (d0 : Dev nD) : Nat :=
  let c0_i32_1141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1140 : BitVec 32 := 1#32
  let v1231 : BitVec 32 := Scalar.muli v7 c1_i32_1140
  let v1232 : BitVec 32 := Scalar.addi c0_i32_1141 v1231
  v1232.toNat
def k0_dev35 (d0 : Dev nD) : Nat :=
  let c0_i32_1164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1163 : BitVec 32 := 1#32
  let v1255 : BitVec 32 := Scalar.muli v7 c1_i32_1163
  let v1256 : BitVec 32 := Scalar.addi c0_i32_1164 v1255
  v1256.toNat
def k0_dev36 (d0 : Dev nD) : Nat :=
  let c0_i32_1187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1186 : BitVec 32 := 1#32
  let v1279 : BitVec 32 := Scalar.muli v7 c1_i32_1186
  let v1280 : BitVec 32 := Scalar.addi c0_i32_1187 v1279
  v1280.toNat
def k0_dev37 (d0 : Dev nD) : Nat :=
  let c0_i32_1210 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1209 : BitVec 32 := 1#32
  let v1303 : BitVec 32 := Scalar.muli v7 c1_i32_1209
  let v1304 : BitVec 32 := Scalar.addi c0_i32_1210 v1303
  v1304.toNat
def k0_dev38 (d0 : Dev nD) : Nat :=
  let c0_i32_1233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1232 : BitVec 32 := 1#32
  let v1327 : BitVec 32 := Scalar.muli v7 c1_i32_1232
  let v1328 : BitVec 32 := Scalar.addi c0_i32_1233 v1327
  v1328.toNat
def k0_dev39 (d0 : Dev nD) : Nat :=
  let c0_i32_1256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1255 : BitVec 32 := 1#32
  let v1351 : BitVec 32 := Scalar.muli v7 c1_i32_1255
  let v1352 : BitVec 32 := Scalar.addi c0_i32_1256 v1351
  v1352.toNat
def k0_dev40 (d0 : Dev nD) : Nat :=
  let c0_i32_1279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1278 : BitVec 32 := 1#32
  let v1375 : BitVec 32 := Scalar.muli v7 c1_i32_1278
  let v1376 : BitVec 32 := Scalar.addi c0_i32_1279 v1375
  v1376.toNat
def k0_dev41 (d0 : Dev nD) : Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1301 : BitVec 32 := 1#32
  let v1399 : BitVec 32 := Scalar.muli v7 c1_i32_1301
  let v1400 : BitVec 32 := Scalar.addi c0_i32_1302 v1399
  v1400.toNat
def k0_dev42 (d0 : Dev nD) : Nat :=
  let c0_i32_1325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1324 : BitVec 32 := 1#32
  let v1423 : BitVec 32 := Scalar.muli v7 c1_i32_1324
  let v1424 : BitVec 32 := Scalar.addi c0_i32_1325 v1423
  v1424.toNat
def k0_dev43 (d0 : Dev nD) : Nat :=
  let c0_i32_1348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1347 : BitVec 32 := 1#32
  let v1447 : BitVec 32 := Scalar.muli v7 c1_i32_1347
  let v1448 : BitVec 32 := Scalar.addi c0_i32_1348 v1447
  v1448.toNat
def k0_dev44 (d0 : Dev nD) : Nat :=
  let c0_i32_1371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1370 : BitVec 32 := 1#32
  let v1471 : BitVec 32 := Scalar.muli v7 c1_i32_1370
  let v1472 : BitVec 32 := Scalar.addi c0_i32_1371 v1471
  v1472.toNat
def k0_dev45 (d0 : Dev nD) : Nat :=
  let c0_i32_1394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1393 : BitVec 32 := 1#32
  let v1495 : BitVec 32 := Scalar.muli v7 c1_i32_1393
  let v1496 : BitVec 32 := Scalar.addi c0_i32_1394 v1495
  v1496.toNat
def k0_dev46 (d0 : Dev nD) : Nat :=
  let c0_i32_1417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1416 : BitVec 32 := 1#32
  let v1519 : BitVec 32 := Scalar.muli v7 c1_i32_1416
  let v1520 : BitVec 32 := Scalar.addi c0_i32_1417 v1519
  v1520.toNat
def k0_dev47 (d0 : Dev nD) : Nat :=
  let c0_i32_1440 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1439 : BitVec 32 := 1#32
  let v1543 : BitVec 32 := Scalar.muli v7 c1_i32_1439
  let v1544 : BitVec 32 := Scalar.addi c0_i32_1440 v1543
  v1544.toNat
def k0_dev48 (d0 : Dev nD) : Nat :=
  let c0_i32_1463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1462 : BitVec 32 := 1#32
  let v1567 : BitVec 32 := Scalar.muli v7 c1_i32_1462
  let v1568 : BitVec 32 := Scalar.addi c0_i32_1463 v1567
  v1568.toNat
def k0_dev49 (d0 : Dev nD) : Nat :=
  let c0_i32_1486 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1485 : BitVec 32 := 1#32
  let v1591 : BitVec 32 := Scalar.muli v7 c1_i32_1485
  let v1592 : BitVec 32 := Scalar.addi c0_i32_1486 v1591
  v1592.toNat
def k0_dev50 (d0 : Dev nD) : Nat :=
  let c0_i32_1509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1508 : BitVec 32 := 1#32
  let v1615 : BitVec 32 := Scalar.muli v7 c1_i32_1508
  let v1616 : BitVec 32 := Scalar.addi c0_i32_1509 v1615
  v1616.toNat
def k0_dev51 (d0 : Dev nD) : Nat :=
  let c0_i32_1532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1531 : BitVec 32 := 1#32
  let v1639 : BitVec 32 := Scalar.muli v7 c1_i32_1531
  let v1640 : BitVec 32 := Scalar.addi c0_i32_1532 v1639
  v1640.toNat
def k0_dev52 (d0 : Dev nD) : Nat :=
  let c0_i32_1555 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1554 : BitVec 32 := 1#32
  let v1663 : BitVec 32 := Scalar.muli v7 c1_i32_1554
  let v1664 : BitVec 32 := Scalar.addi c0_i32_1555 v1663
  v1664.toNat
def k0_dev53 (d0 : Dev nD) : Nat :=
  let c0_i32_1578 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1577 : BitVec 32 := 1#32
  let v1687 : BitVec 32 := Scalar.muli v7 c1_i32_1577
  let v1688 : BitVec 32 := Scalar.addi c0_i32_1578 v1687
  v1688.toNat
def k0_dev54 (d0 : Dev nD) : Nat :=
  let c0_i32_1601 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1600 : BitVec 32 := 1#32
  let v1711 : BitVec 32 := Scalar.muli v7 c1_i32_1600
  let v1712 : BitVec 32 := Scalar.addi c0_i32_1601 v1711
  v1712.toNat
def k0_dev55 (d0 : Dev nD) : Nat :=
  let c0_i32_1624 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1623 : BitVec 32 := 1#32
  let v1735 : BitVec 32 := Scalar.muli v7 c1_i32_1623
  let v1736 : BitVec 32 := Scalar.addi c0_i32_1624 v1735
  v1736.toNat
def k0_dev56 (d0 : Dev nD) : Nat :=
  let c0_i32_1647 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1646 : BitVec 32 := 1#32
  let v1759 : BitVec 32 := Scalar.muli v7 c1_i32_1646
  let v1760 : BitVec 32 := Scalar.addi c0_i32_1647 v1759
  v1760.toNat
def k0_dev57 (d0 : Dev nD) : Nat :=
  let c0_i32_1670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1669 : BitVec 32 := 1#32
  let v1783 : BitVec 32 := Scalar.muli v7 c1_i32_1669
  let v1784 : BitVec 32 := Scalar.addi c0_i32_1670 v1783
  v1784.toNat
def k0_dev58 (d0 : Dev nD) : Nat :=
  let c0_i32_1693 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1692 : BitVec 32 := 1#32
  let v1807 : BitVec 32 := Scalar.muli v7 c1_i32_1692
  let v1808 : BitVec 32 := Scalar.addi c0_i32_1693 v1807
  v1808.toNat
def k0_dev59 (d0 : Dev nD) : Nat :=
  let c0_i32_1716 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1715 : BitVec 32 := 1#32
  let v1831 : BitVec 32 := Scalar.muli v7 c1_i32_1715
  let v1832 : BitVec 32 := Scalar.addi c0_i32_1716 v1831
  v1832.toNat
def k0_dev60 (d0 : Dev nD) : Nat :=
  let c0_i32_1739 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1738 : BitVec 32 := 1#32
  let v1855 : BitVec 32 := Scalar.muli v7 c1_i32_1738
  let v1856 : BitVec 32 := Scalar.addi c0_i32_1739 v1855
  v1856.toNat
def k0_dev61 (d0 : Dev nD) : Nat :=
  let c0_i32_1762 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1761 : BitVec 32 := 1#32
  let v1879 : BitVec 32 := Scalar.muli v7 c1_i32_1761
  let v1880 : BitVec 32 := Scalar.addi c0_i32_1762 v1879
  v1880.toNat
def k0_dev62 (d0 : Dev nD) : Nat :=
  let c0_i32_1785 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1784 : BitVec 32 := 1#32
  let v1903 : BitVec 32 := Scalar.muli v7 c1_i32_1784
  let v1904 : BitVec 32 := Scalar.addi c0_i32_1785 v1903
  v1904.toNat
def k0_dev63 (d0 : Dev nD) : Nat :=
  let c0_i32_1808 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1807 : BitVec 32 := 1#32
  let v1927 : BitVec 32 := Scalar.muli v7 c1_i32_1807
  let v1928 : BitVec 32 := Scalar.addi c0_i32_1808 v1927
  v1928.toNat
def k0_dev64 (d0 : Dev nD) : Nat :=
  let c0_i32_1831 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1830 : BitVec 32 := 1#32
  let v1951 : BitVec 32 := Scalar.muli v7 c1_i32_1830
  let v1952 : BitVec 32 := Scalar.addi c0_i32_1831 v1951
  v1952.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x256x512 : Shape := ⟨3, ![2, 256, 512]⟩
abbrev S512x8192 : Shape := ⟨2, ![512, 8192]⟩
abbrev S2x256x128x64 : Shape := ⟨4, ![2, 256, 128, 64]⟩
abbrev S8192x512 : Shape := ⟨2, ![8192, 512]⟩
abbrev S2x256x8192 : Shape := ⟨3, ![2, 256, 8192]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S2x128x256x256 : Shape := ⟨4, ![2, 128, 256, 256]⟩
abbrev S1x1x256x256 : Shape := ⟨4, ![1, 1, 256, 256]⟩
abbrev S2x128x256 : Shape := ⟨3, ![2, 128, 256]⟩
abbrev S2x128x256x1 : Shape := ⟨4, ![2, 128, 256, 1]⟩
abbrev S1x1x256x1 : Shape := ⟨4, ![1, 1, 256, 1]⟩
abbrev S2x128x64x256 : Shape := ⟨4, ![2, 128, 64, 256]⟩

abbrev nBuf : Space → Nat
  | .hbm => 72
  | .vmem => 0
  | .smem => 0
  | _ => 0

abbrev bufTy : (tb : Table) → Fin (tcTables nBuf tb) → BufTy
  | .hbm, ⟨0, _⟩ => ⟨S2x256x512, .bf16⟩
  | .hbm, ⟨1, _⟩ => ⟨S512x8192, .bf16⟩
  | .hbm, ⟨2, _⟩ => ⟨S2x256x128x64, .bf16⟩
  | .hbm, ⟨3, _⟩ => ⟨S2x256x128x64, .bf16⟩
  | .hbm, ⟨4, _⟩ => ⟨S8192x512, .bf16⟩
  | .hbm, ⟨5, _⟩ => ⟨S2x256x8192, .f32⟩
  | .hbm, ⟨6, _⟩ => ⟨S2x256x8192, .bf16⟩
  | .hbm, ⟨7, _⟩ => ⟨S2x256x128x64, .bf16⟩
  | .hbm, ⟨8, _⟩ => ⟨S256, .i32⟩
  | .hbm, ⟨9, _⟩ => ⟨S256x1, .i32⟩
  | .hbm, ⟨10, _⟩ => ⟨S256, .i32⟩
  | .hbm, ⟨11, _⟩ => ⟨S1x256, .i32⟩
  | .hbm, ⟨12, _⟩ => ⟨S256x256, .i32⟩
  | .hbm, ⟨13, _⟩ => ⟨S256x256, .i32⟩
  | .hbm, ⟨14, _⟩ => ⟨S256x256, .i32⟩
  | .hbm, ⟨15, _⟩ => ⟨S256x256, .i32⟩
  | .hbm, ⟨16, _⟩ => ⟨S_, .i32⟩
  | .hbm, ⟨17, _⟩ => ⟨S256x256, .i32⟩
  | .hbm, ⟨18, _⟩ => ⟨S256x256, .i1⟩
  | .hbm, ⟨19, _⟩ => ⟨S_, .i32⟩
  | .hbm, ⟨20, _⟩ => ⟨S1x256, .i32⟩
  | .hbm, ⟨21, _⟩ => ⟨S1x256, .i1⟩
  | .hbm, ⟨22, _⟩ => ⟨S_, .i32⟩
  | .hbm, ⟨23, _⟩ => ⟨S256x1, .i32⟩
  | .hbm, ⟨24, _⟩ => ⟨S256x1, .i1⟩
  | .hbm, ⟨25, _⟩ => ⟨S256x256, .i1⟩
  | .hbm, ⟨26, _⟩ => ⟨S256x256, .i1⟩
  | .hbm, ⟨27, _⟩ => ⟨S256x256, .i1⟩
  | .hbm, ⟨28, _⟩ => ⟨S256x256, .i1⟩
  | .hbm, ⟨29, _⟩ => ⟨S2x128x256x256, .f32⟩
  | .hbm, ⟨30, _⟩ => ⟨S2x128x256x256, .bf16⟩
  | .hbm, ⟨31, _⟩ => ⟨S2x128x256x256, .f32⟩
  | .hbm, ⟨32, _⟩ => ⟨S_, .f32⟩
  | .hbm, ⟨33, _⟩ => ⟨S2x128x256x256, .f32⟩
  | .hbm, ⟨34, _⟩ => ⟨S2x128x256x256, .f32⟩
  | .hbm, ⟨35, _⟩ => ⟨S1x1x256x256, .i1⟩
  | .hbm, ⟨36, _⟩ => ⟨S_, .f32⟩
  | .hbm, ⟨37, _⟩ => ⟨S_, .f32⟩
  | .hbm, ⟨38, _⟩ => ⟨S2x128x256x256, .i1⟩
  | .hbm, ⟨39, _⟩ => ⟨S2x128x256x256, .f32⟩
  | .hbm, ⟨40, _⟩ => ⟨S2x128x256x256, .f32⟩
  | .hbm, ⟨41, _⟩ => ⟨S_, .f32⟩
  | .hbm, ⟨42, _⟩ => ⟨S2x128x256, .f32⟩
  | .hbm, ⟨43, _⟩ => ⟨S2x128x256x1, .f32⟩
  | .hbm, ⟨44, _⟩ => ⟨S2x128x256x256, .f32⟩
  | .hbm, ⟨45, _⟩ => ⟨S2x128x256x256, .f32⟩
  | .hbm, ⟨46, _⟩ => ⟨S2x128x256x256, .f32⟩
  | .hbm, ⟨47, _⟩ => ⟨S_, .i1⟩
  | .hbm, ⟨48, _⟩ => ⟨S256, .i1⟩
  | .hbm, ⟨49, _⟩ => ⟨S1x1x256x1, .i1⟩
  | .hbm, ⟨50, _⟩ => ⟨S_, .f32⟩
  | .hbm, ⟨51, _⟩ => ⟨S2x128x256, .f32⟩
  | .hbm, ⟨52, _⟩ => ⟨S2x128x256x1, .f32⟩
  | .hbm, ⟨53, _⟩ => ⟨S_, .f32⟩
  | .hbm, ⟨54, _⟩ => ⟨S_, .f32⟩
  | .hbm, ⟨55, _⟩ => ⟨S2x128x256x1, .i1⟩
  | .hbm, ⟨56, _⟩ => ⟨S2x128x256x1, .f32⟩
  | .hbm, ⟨57, _⟩ => ⟨S2x128x256x1, .f32⟩
  | .hbm, ⟨58, _⟩ => ⟨S2x128x256x256, .f32⟩
  | .hbm, ⟨59, _⟩ => ⟨S2x128x256x256, .f32⟩
  | .hbm, ⟨60, _⟩ => ⟨S1x1x256x1, .i1⟩
  | .hbm, ⟨61, _⟩ => ⟨S_, .f32⟩
  | .hbm, ⟨62, _⟩ => ⟨S_, .f32⟩
  | .hbm, ⟨63, _⟩ => ⟨S2x128x256x256, .i1⟩
  | .hbm, ⟨64, _⟩ => ⟨S2x128x256x256, .f32⟩
  | .hbm, ⟨65, _⟩ => ⟨S2x128x256x256, .f32⟩
  | .hbm, ⟨66, _⟩ => ⟨S2x256x128x64, .f32⟩
  | .hbm, ⟨67, _⟩ => ⟨S2x128x64x256, .f32⟩
  | .hbm, ⟨68, _⟩ => ⟨S2x256x128x64, .f32⟩
  | .hbm, ⟨69, _⟩ => ⟨S2x256x8192, .f32⟩
  | .hbm, ⟨70, _⟩ => ⟨S8192x512, .f32⟩
  | .hbm, ⟨71, _⟩ => ⟨S2x256x512, .f32⟩
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]
-- ==== Proof.Same.lean ====
/- The kernel and the kernel read over exact arithmetic have the same text: the same program and the same bodies. -/
module

public import proofs.«01_k».proof.Proof.Gen.Kernel
public import proofs.«01_k».proof.Proof.Gen.KernelIdeal

@[expose] public section

namespace RingK

open Idealize.ShloMosaic Idealize.SL.Sem

variable {F : FTy → Type} [FloatOps F]

theorem body_same : Cert.Kernel.cc0_body (F := F) = Cert.KernelIdeal.cc0_body (F := F) := rfl

/-- The kernel's body table. -/
theorem bodies_same : Cert.Kernel.defs₀ (F := F) = Cert.KernelIdeal.defs₀ := by
  unfold Cert.Kernel.defs₀ Cert.KernelIdeal.defs₀
  rw [body_same]
  refine congrArg Defs.onTc ?_
  funext l a
  match l, a with
  | 0, (t, s) => rfl

/-- The whole table. -/
theorem defs_same : Cert.Kernel.defs (F := F) = Cert.KernelIdeal.defs := by
  unfold Cert.Kernel.defs Cert.KernelIdeal.defs
  rw [bodies_same]; rfl

set_option maxHeartbeats 2000000 in
theorem host_same : Cert.Kernel.main_part0 (F := F) = Cert.KernelIdeal.main_part0 (F := F) := rfl
theorem rest_same : Cert.Kernel.main_part1 (F := F) = Cert.KernelIdeal.main_part1 (F := F) := rfl

set_option maxHeartbeats 1000000 in
/-- The program. -/
theorem main_same : Cert.Kernel.main (F := F) = Cert.KernelIdeal.main (F := F) := by
  unfold Cert.Kernel.main Cert.KernelIdeal.main
  rw [rest_same, host_same]

end RingK
-- ==== Proof.Flat.lean ====
/- The kernel's body as a prologue and two loops: one definition for a step of the reduce-scatter,
   one for a step of the all-gather, and the printed body equal to the text they spell out. -/
module

public import proofs.«01_k».proof.Proof.Gen.KernelIdeal.Points
public import proofs.«01_k».proof.Proof.Gen.KernelIdeal.Regions

@[expose] public section

noncomputable section

namespace RingK

open Idealize.ShloMosaic Idealize.SL.Sem Cert.KernelIdeal Cert.KernelIdeal.Gen

variable {F : FTy → Type} [FloatOps F]

/-- The programs of this kernel's threads. -/
abbrev PK (F : FTy → Type) [FloatOps F] : Type _ := Prog (TpuEff nD τ sig (Elt F) Λ₀ .tc) PUnit

theorem inb31 (h : ℕ) (hh : h < 31) : ∀ a, (![h] : Fin 1 → ℕ) a + S1.size a ≤ S31.size a := by
  intro a; fin_cases a; show h + 1 ≤ 31; omega

theorem inbC (h : ℕ) (hh : h < 31) :
    ∀ a, (![h, 0, 0] : Fin 3 → ℕ) a + S1x16x512.size a ≤ S31x16x512.size a := by
  intro a; fin_cases a
  · show h + 1 ≤ 31; omega
  · exact le_refl 16
  · exact le_refl 512

/-- The `h`-th semaphore of an array of 31. -/
abbrev semAt (a : DmaSems sig S31) (h : ℕ) (hh : h < 31) : DmaSem sig :=
  ((a.slice (Rect.unit (s := S31) ![h] S1.size (inb31 h hh))).squeeze S_ squeezes_S1_S_).sem

/-- The `h`-th block of the receive scratch. -/
abbrev commAt (a : Memref sig .tc .vmem S31x16x512 .f32) (h : ℕ) (hh : h < 31) :
    Memref sig .tc .vmem S16x512 .f32 :=
  (a.slice (Rect.unit (s := S31x16x512) ![h, 0, 0] S1x16x512.size (inbC h hh)) (fun _ => rfl)).squeeze
    S16x512 squeezes_S1x16x512_S16x512

/-- Sixteen rows of a 512 by 512 buffer, from an offset. -/
abbrev rowsAt (a : Memref sig .tc .vmem S512x512 .f32) (o : Fin 2 → ℕ)
    (i : ∀ a, o a + S16x512.size a ≤ S512x512.size a) : Memref sig .tc .vmem S16x512 .f32 :=
  a.slice (Rect.unit (s := S512x512) o S16x512.size i) (fun _ => rfl)

/-- The block stored by a step: its rows of the output plus the block that came in. -/
def addBlk (v : Vec F S16x512 .f32) (w : Vec F S1x16x512 .f32) : FVec F S16x512 .f32 :=
  addf (shapeCast S16x512 v shapeCasts_S16x512_S16x512) (shapeCast S16x512 w shapeCasts_S1x16x512_S16x512)

/-- The array the prologue stores: the operand, reshaped to its own shape. -/
def whole (v : Vec F S512x512 .f32) : FVec F S512x512 .f32 :=
  shapeCast S512x512 v shapeCasts_S512x512_S512x512

/-- One step of the reduce-scatter: a block sent to `n`, both ends awaited, the block that came
    in added to the next one. -/
def rsK (arg1 : Memref sig .tc .vmem S512x512 .f32) (arg2 : Memref sig .tc .vmem S31x16x512 .f32)
    (arg3 arg4 : DmaSems sig S31) (n : Dev nD) (o1 o2 : Fin 2 → ℕ)
    (i1 : ∀ a, o1 a + S16x512.size a ≤ S512x512.size a)
    (i2 : ∀ a, o2 a + S16x512.size a ≤ S512x512.size a) (h : ℕ) (hh : h < 31) (k : PK F) : PK F :=
  .op (.enqueueDma (rowsAt arg1 o1 i1) (.remote (Dev.tc n) (commAt arg2 h hh) (.dma (semAt arg3 h hh)))
      (.dma (semAt arg4 h hh)) (View.wordExact_bits rfl) ((View.wordExact_bits rfl).reshape _ _)
      ⟨⟨rfl, Or.inl rfl⟩, trivial⟩) fun _ =>
  .op (.waitDma2 (semAt arg3 h hh) (commAt arg2 h hh) (rowsAt arg1 o1 i1)
      ((View.wordExact_bits rfl).reshape _ _) (View.wordExact_bits rfl)) fun _ =>
  .op (.waitDma2 (semAt arg4 h hh) (rowsAt arg1 o1 i1) (commAt arg2 h hh)
      (View.wordExact_bits rfl) ((View.wordExact_bits rfl).reshape _ _)) fun _ =>
  .op (.load arg1 (Rect.unit (s := S512x512) o2 S16x512.size i2).toLoadRect
      (View.loadsAt_vmem h_S16x512)) fun v =>
  .op (.load arg2 (Rect.unit (s := S31x16x512) ![h, 0, 0] S1x16x512.size (inbC h hh)).toLoadRect
      (View.loadsAt_vmem h_S1x16x512)) fun w =>
  .op (.load arg1 (Rect.unit (s := S512x512) o2 S16x512.size i2).toLoadRect
      (View.loadsAt_vmem h_S16x512)) fun _ =>
  .op (.store arg1 (Rect.unit (s := S512x512) o2 S16x512.size i2) (addBlk v w) Finset.univ
      (View.stores_vmem_bits_univ h_S16x512 rfl) (.inl rfl)) fun _ => k

/-- One step of the all-gather: a block sent to the same place of `n`, both ends awaited. -/
def agK (arg1 : Memref sig .tc .vmem S512x512 .f32)
    (arg5 arg6 : DmaSems sig S31) (n : Dev nD) (o : Fin 2 → ℕ)
    (i : ∀ a, o a + S16x512.size a ≤ S512x512.size a) (h : ℕ) (hh : h < 31) (k : PK F) : PK F :=
  .op (.enqueueDma (rowsAt arg1 o i) (.remote (Dev.tc n) (rowsAt arg1 o i) (.dma (semAt arg5 h hh)))
      (.dma (semAt arg6 h hh)) (View.wordExact_bits rfl) (View.wordExact_bits rfl)
      ⟨⟨rfl, Or.inl rfl⟩, trivial⟩) fun _ =>
  .op (.waitDma2 (semAt arg5 h hh) (rowsAt arg1 o i) (rowsAt arg1 o i)
      (View.wordExact_bits rfl) (View.wordExact_bits rfl)) fun _ =>
  .op (.waitDma2 (semAt arg6 h hh) (rowsAt arg1 o i) (rowsAt arg1 o i)
      (View.wordExact_bits rfl) (View.wordExact_bits rfl)) fun _ => k

/-- The right neighbour, as the program computes it. -/
abbrev rightOf (d0 : Dev nD) : Dev nD := ⟨k0_dev2 d0, k0_dev2_lt d0⟩
/-- The left neighbour, as the program computes it. -/
abbrev leftOf (d0 : Dev nD) : Dev nD := ⟨k0_dev1 d0, k0_dev1_lt d0⟩

/-- The steps `s`, …, `s + n - 1` of the reduce-scatter, then `k`. -/
def rsL (arg1 : Memref sig .tc .vmem S512x512 .f32) (arg2 : Memref sig .tc .vmem S31x16x512 .f32)
    (arg3 arg4 : DmaSems sig S31) (d0 : Dev nD) (k : PK F) : (n s : ℕ) → s + n ≤ 31 → PK F
  | 0, _, _ => k
  | n + 1, s, hs =>
    rsK arg1 arg2 arg3 arg4 (rightOf d0) (k0_off1 d0 (BitVec.ofNat 32 s)) (k0_off2 d0 (BitVec.ofNat 32 s))
      (k0_off1_inb d0 ⟨s, by omega⟩) (k0_off2_inb d0 ⟨s, by omega⟩) s (by omega)
      (rsL arg1 arg2 arg3 arg4 d0 k n (s + 1) (by omega))

/-- The steps `s`, …, `s + n - 1` of the all-gather, then `k`. -/
def agL (arg1 : Memref sig .tc .vmem S512x512 .f32)
    (arg5 arg6 : DmaSems sig S31) (d0 : Dev nD) (k : PK F) : (n s : ℕ) → s + n ≤ 31 → PK F
  | 0, _, _ => k
  | n + 1, s, hs =>
    agK arg1 arg5 arg6 (rightOf d0) (k0_off3 d0 (BitVec.ofNat 32 s))
      (k0_off3_inb d0 ⟨s, by omega⟩) s (by omega)
      (agL arg1 arg5 arg6 d0 k n (s + 1) (by omega))

/-- The runtime's barrier semaphore. -/
abbrev barS : Sem sig := (SemArray.scalar (sig.barrier 0 rfl) : Sems sig S_).sem

/-- The whole body, flat. -/
def flat (arg0 arg1 : Memref sig .tc .vmem S512x512 .f32) (arg2 : Memref sig .tc .vmem S31x16x512 .f32)
    (arg3 arg4 arg5 arg6 : DmaSems sig S31) : PK F :=
  (Prog.lift .deviceId).bind fun d0 =>
  (semSignalWord (leftOf d0) barS 1#32).bind fun _ =>
  (semSignalWord (rightOf d0) barS 1#32).bind fun _ =>
  (semWaitWord barS 2#32).bind fun _ =>
  .op (.load arg0 (Rect.unit (s := S512x512) ![0, 0] S512x512.size inb_S512x512_S512x512_0_0).toLoadRect
      (View.loadsAt_vmem h_S512x512)) fun v =>
  .op (.load arg1 (Rect.unit (s := S512x512) ![0, 0] S512x512.size inb_S512x512_S512x512_0_0).toLoadRect
      (View.loadsAt_vmem h_S512x512)) fun _ =>
  .op (.store arg1 (Rect.unit (s := S512x512) ![0, 0] S512x512.size inb_S512x512_S512x512_0_0) (whole v)
      Finset.univ (View.stores_vmem_bits_univ h_S512x512 rfl) (.inl rfl)) fun _ =>
  rsL arg1 arg2 arg3 arg4 d0 (agL arg1 arg5 arg6 d0 (.ret ⟨⟩) 31 0 (by omega)) 31 0 (by omega)

set_option maxRecDepth 65536 in
theorem body_eq (arg0 : Memref sig .tc .vmem S512x512 .f32) (h0 : arg0.IsWhole)
    (arg1 : Memref sig .tc .vmem S512x512 .f32) (h1 : arg1.IsWhole)
    (arg2 : Memref sig .tc .vmem S31x16x512 .f32) (h2 : arg2.IsWhole)
    (arg3 arg4 arg5 arg6 : DmaSems sig S31) :
    cc0_body (F := F) arg0 h0 arg1 h1 arg2 h2 arg3 arg4 arg5 arg6 =
      flat arg0 arg1 arg2 arg3 arg4 arg5 arg6 := rfl

end RingK
-- ==== Proof.Contents.lean ====
/- What the ring's buffers hold: the devices of the ring, the sixteen-row blocks of the output, the
   blocks of the receive scratch, and the running sums that travel round. -/
module

public import proofs.«01_k».proof.Proof.Flat
public import Idealize.ShloMosaic.Lib.ValueLayout

@[expose] public section

noncomputable section

namespace RingK

open Idealize.ShloMosaic Idealize.SL.Sem Cert.KernelIdeal Cert.KernelIdeal.Gen

variable {F : FTy → Type} [FloatOps F]

/-! ## The devices -/

/-- The device of number `x`, counted round the ring. -/
def dv (x : ℕ) : Dev nD := ⟨x % 32, Nat.mod_lt _ (by decide)⟩

/-- The device to the right. -/
def nxt (c : Dev nD) : Dev nD := dv (c.val + 1)
/-- The device to the left. -/
def prv (c : Dev nD) : Dev nD := dv (c.val + 31)

theorem dv_val (c : Dev nD) : dv c.val = c := Fin.ext (Nat.mod_eq_of_lt c.isLt)
theorem dv_eq {x y : ℕ} (h : x % 32 = y % 32) : dv x = dv y := Fin.ext h
theorem dv_at {x : ℕ} {c : Dev nD} (h : x % 32 = c.val) : dv x = c := Fin.ext h
theorem nxt_val (c : Dev nD) : (nxt c).val = (c.val + 1) % 32 := rfl
theorem prv_val (c : Dev nD) : (prv c).val = (c.val + 31) % 32 := rfl
theorem dev_lt (c : Dev nD) : c.val < 32 := c.isLt
theorem prv_nxt (c : Dev nD) : prv (nxt c) = c := by
  apply Fin.ext; have := dev_lt c; rw [prv_val, nxt_val]; omega
theorem nxt_prv (c : Dev nD) : nxt (prv c) = c := by
  apply Fin.ext; have := dev_lt c; rw [nxt_val, prv_val]; omega
theorem nxt_ne_prv (c : Dev nD) : nxt c ≠ prv c := by
  intro h; have := congrArg Fin.val h; have := dev_lt c; rw [nxt_val, prv_val] at *; omega
theorem rightOf_eq (c : Dev nD) : rightOf c = nxt c := Fin.ext (k0_dev2_eq c)
theorem leftOf_eq (c : Dev nD) : leftOf c = prv c := Fin.ext (k0_dev1_eq c)

/-- The ring's rotation. -/
def rot : Dev nD ≃ Dev nD := ⟨nxt, prv, prv_nxt, nxt_prv⟩

/-! ## The views -/

abbrev pM : Memref sig .tc .vmem S512x512 .f32 := Memref.whole cc0_stg0_0
abbrev oM : Memref sig .tc .vmem S512x512 .f32 := Memref.whole cc0_stg1_0
abbrev cM : Memref sig .tc .vmem S31x16x512 .f32 := Memref.whole cc0_scratch0

/-- The rows of block `k`. -/
def rowSet (k : ℕ) : Finset S512x512.Idx := Finset.univ.filter fun i => (i 0).val / 16 = k
/-- The elements of scratch block `h`. -/
def slotSet (h : ℕ) : Finset S31x16x512.Idx := Finset.univ.filter fun j => (j 0).val = h

theorem mem_rowSet {k : ℕ} {i : S512x512.Idx} : i ∈ rowSet k ↔ (i 0).val / 16 = k := by simp [rowSet]
theorem mem_slotSet {h : ℕ} {j : S31x16x512.Idx} : j ∈ slotSet h ↔ (j 0).val = h := by simp [slotSet]

theorem inbR (k : ℕ) (hk : k < 32) : ∀ a, (![16 * k, 0] : Fin 2 → ℕ) a + S16x512.size a ≤ S512x512.size a := by
  intro a; fin_cases a
  · show 16 * k + 16 ≤ 512; omega
  · exact le_refl 512

/-- The rectangle of block `k`. -/
abbrev rRect (k : ℕ) (hk : k < 32) : Rect S512x512 := Rect.unit (s := S512x512) ![16 * k, 0] S16x512.size (inbR k hk)
/-- The rectangle of scratch block `h`. -/
abbrev cRect (h : ℕ) (hh : h < 31) : Rect S31x16x512 :=
  Rect.unit (s := S31x16x512) ![h, 0, 0] S1x16x512.size (inbC h hh)

theorem rRect_emb0 (k : ℕ) (hk : k < 32) (x : S16x512.Idx) : ((rRect k hk).emb x 0).val = 16 * k + (x 0).val := by
  show 16 * k + 1 * (x 0).val = _; omega
theorem rRect_emb1 (k : ℕ) (hk : k < 32) (x : S16x512.Idx) : ((rRect k hk).emb x 1).val = (x 1).val := by
  show 0 + 1 * (x 1).val = _; omega
theorem cRect_emb0 (h : ℕ) (hh : h < 31) (x : S1x16x512.Idx) : ((cRect h hh).emb x 0).val = h := by
  show h + 1 * (x 0).val = _; have : (x 0).val < 1 := (x 0).isLt; omega
theorem cRect_emb1 (h : ℕ) (hh : h < 31) (x : S1x16x512.Idx) : ((cRect h hh).emb x 1).val = (x 1).val := by
  show 0 + 1 * (x 1).val = _; omega
theorem cRect_emb2 (h : ℕ) (hh : h < 31) (x : S1x16x512.Idx) : ((cRect h hh).emb x 2).val = (x 2).val := by
  show 0 + 1 * (x 2).val = _; omega

theorem rRect_mem (k : ℕ) (hk : k < 32) (x : S16x512.Idx) : (rRect k hk).emb x ∈ rowSet k := by
  rw [mem_rowSet, rRect_emb0]; have : (x 0).val < 16 := (x 0).isLt; omega

theorem ix512_ext {i j : S512x512.Idx} (h0 : (i 0).val = (j 0).val) (h1 : (i 1).val = (j 1).val) : i = j := by
  funext a; fin_cases a
  · exact Fin.ext h0
  · exact Fin.ext h1

theorem rRect_surj (k : ℕ) (hk : k < 32) (i : S512x512.Idx) (hi : i ∈ rowSet k) : ∃ x, (rRect k hk).emb x = i := by
  rw [mem_rowSet] at hi
  have h0 : (i 0).val < 512 := (i 0).isLt
  refine ⟨fun a => match a with | ⟨0, _⟩ => ⟨(i 0).val - 16 * k, by show _ < 16; omega⟩ | ⟨1, _⟩ => i 1, ?_⟩
  apply ix512_ext
  · rw [rRect_emb0]; show 16 * k + ((i 0).val - 16 * k) = _; omega
  · rw [rRect_emb1]

theorem cRect_mem (h : ℕ) (hh : h < 31) (x : S1x16x512.Idx) : (cRect h hh).emb x ∈ slotSet h := by
  rw [mem_slotSet, cRect_emb0]

theorem ixC_ext {i j : S31x16x512.Idx} (h0 : (i 0).val = (j 0).val) (h1 : (i 1).val = (j 1).val)
    (h2 : (i 2).val = (j 2).val) : i = j := by
  funext a; fin_cases a
  · exact Fin.ext h0
  · exact Fin.ext h1
  · exact Fin.ext h2

theorem cRect_surj (h : ℕ) (hh : h < 31) (i : S31x16x512.Idx) (hi : i ∈ slotSet h) : ∃ x, (cRect h hh).emb x = i := by
  rw [mem_slotSet] at hi
  refine ⟨fun a => match a with | ⟨0, _⟩ => ⟨0, Nat.one_pos⟩ | ⟨1, _⟩ => i 1 | ⟨2, _⟩ => i 2, ?_⟩
  apply ixC_ext
  · rw [cRect_emb0, hi]
  · rw [cRect_emb1]
  · rw [cRect_emb2]

theorem rRect_set (k : ℕ) (hk : k < 32) : (rRect k hk).set = rowSet k := by
  ext i; constructor
  · intro h
    obtain ⟨x, rfl⟩ := (rRect k hk).exists_idx_of_mem h
    exact rRect_mem k hk x
  · intro h
    obtain ⟨x, rfl⟩ := rRect_surj k hk i h
    exact LoadRect.idx_mem _ x

theorem cRect_set (h : ℕ) (hh : h < 31) : (cRect h hh).set = slotSet h := by
  ext i; constructor
  · intro hi
    obtain ⟨x, rfl⟩ := (cRect h hh).exists_idx_of_mem hi
    exact cRect_mem h hh x
  · intro hi
    obtain ⟨x, rfl⟩ := cRect_surj h hh i hi
    exact LoadRect.idx_mem _ x

theorem rows_set (k : ℕ) (hk : k < 32) : (rowsAt oM ![16 * k, 0] (inbR k hk)).view.set = rowSet k :=
  (View.set_slice_whole cc0_stg1_0 (rRect k hk)).trans (rRect_set k hk)

theorem comm_set (h : ℕ) (hh : h < 31) : (commAt cM h hh).view.set = slotSet h :=
  (View.set_reshape _ _).trans ((View.set_slice_whole cc0_scratch0 (cRect h hh)).trans (cRect_set h hh))

/-! ## The running sums -/

/-- A buffer of 512 by 512 floats. -/
abbrev B512 (F : FTy → Type) [FloatOps F] : Type := (cc0_stg1_0 : Ref sig .tc).ty.Contents (Elt F)
/-- The receive scratch's contents. -/
abbrev BC (F : FTy → Type) [FloatOps F] : Type := (cc0_scratch0 : Ref sig .tc).ty.Contents (Elt F)

/-- The sum of the partial arrays of the devices `k`, `k + 1`, …, `k + h` at the rows of block `k`:
    what the block holds after its `h`-th addition. -/
def ringSum (P : Dev nD → B512 F) : ℕ → B512 F
  | 0 => fun i => P (dv ((i 0).val / 16)) i
  | h + 1 => addf (F := F) (s := S512x512) (φ := .f32) (fun i => P (dv ((i 0).val / 16 + (h + 1))) i) (ringSum P h)

/-- The scratch element `j` as an element of the output, on device `d`. -/
def backIx (d : Dev nD) (j : S31x16x512.Idx) : S512x512.Idx := fun a => match a with
  | ⟨0, _⟩ => ⟨16 * ((d.val + 63 - (j 0).val) % 32) + (j 1).val, by
      have : (j 1).val < 16 := (j 1).isLt
      have := Nat.mod_lt (d.val + 63 - (j 0).val) (show 0 < 32 by decide)
      show _ < 512; omega⟩
  | ⟨1, _⟩ => ⟨(j 2).val, (j 2).isLt⟩

/-- What device `d`'s scratch holds when every block has landed. -/
def commC (P : Dev nD → B512 F) (d : Dev nD) : BC F := fun j => ringSum P (j 0).val (backIx d j)

theorem ringSum_succ_at (P : Dev nD → B512 F) (d : Dev nD) (h : ℕ) (hh : h < 31) (i : S512x512.Idx)
    (hi : i ∈ rowSet ((d.val + 63 - h) % 32)) :
    ringSum P (h + 1) i = addf (F := F) (s := S512x512) (φ := .f32) (P d) (ringSum P h) i := by
  rw [mem_rowSet] at hi
  have hd : dv ((i 0).val / 16 + (h + 1)) = d := dv_at (by have := dev_lt d; omega)
  have e : (fun i : S512x512.Idx => P (dv ((i 0).val / 16 + (h + 1))) i) i = P d i := by
    show P (dv ((i 0).val / 16 + (h + 1))) i = P d i
    rw [hd]
  show FloatOps.addf _ _ = FloatOps.addf _ _
  exact congrArg (fun z => FloatOps.addf z (ringSum P h i)) e

theorem write_rows (k : ℕ) (hk : k < 32) (fd T : B512 F) (i : S512x512.Idx) (hi : i ∈ rowSet k) :
    (rowsAt oM ![16 * k, 0] (inbR k hk)).view.write (Elt F) fd
      ((rowsAt oM ![16 * k, 0] (inbR k hk)).view.read (Elt F) T) Finset.univ i = T i := by
  obtain ⟨x, rfl⟩ := rRect_surj k hk i hi
  exact View.write_emb_of_mem (v := (rowsAt oM ![16 * k, 0] (inbR k hk)).view) fd _ (Finset.mem_univ x)

theorem write_slot (P : Dev nD → B512 F) (d : Dev nD) (h k : ℕ) (hh : h < 31) (hk : k < 32)
    (e : k = (d.val + 63 - h) % 32) (fd : BC F) (j : S31x16x512.Idx) (hj : j ∈ slotSet h) :
    (commAt cM h hh).view.write (Elt F) fd
      ((rowsAt oM ![16 * k, 0] (inbR k hk)).view.read (Elt F) (ringSum P h)) Finset.univ j = commC P d j := by
  obtain ⟨y, rfl⟩ := cRect_surj h hh j hj
  obtain ⟨x, rfl⟩ : ∃ x : S16x512.Idx, Shape.reshapeEquiv squeezes_S1x16x512_S16x512.numel_eq x = y :=
    ⟨(Shape.reshapeEquiv squeezes_S1x16x512_S16x512.numel_eq).symm y, Equiv.apply_symm_apply _ _⟩
  refine (View.write_emb_of_mem (v := (commAt cM h hh).view) fd _ (Finset.mem_univ x)).trans ?_
  have hx := Shape.reshapeEquiv_cons_one (d := ![16, 512]) squeezes_S1x16x512_S16x512.numel_eq x
  show ringSum P h ((rRect k hk).emb x) = ringSum P _ (backIx d _)
  have hix : (rRect k hk).emb x = backIx d ((cRect h hh).emb (Shape.reshapeEquiv squeezes_S1x16x512_S16x512.numel_eq x)) := by
    apply ix512_ext
    · rw [rRect_emb0]
      show _ = 16 * ((d.val + 63 - _) % 32) + _
      rw [cRect_emb0, cRect_emb1, hx, e]; rfl
    · rw [rRect_emb1]
      show _ = ((cRect h hh).emb _ 2).val
      rw [cRect_emb2, hx]; rfl
  rw [hix, cRect_emb0]

theorem write_add (P : Dev nD → B512 F) (d : Dev nD) (h k : ℕ) (hh : h < 31) (hk : k < 32)
    (e : k = (d.val + 63 - h) % 32) (i : S512x512.Idx) (hi : i ∈ rowSet k) :
    (oM.access (rRect k hk) : View sig .tc _ _ _).write (Elt F) (P d)
      (addBlk (oM.view.readAt (Elt F) (rRect k hk).toLoadRect (P d))
        (cM.view.readAt (Elt F) (cRect h hh).toLoadRect (commC P d))) Finset.univ i = ringSum P (h + 1) i := by
  rw [ringSum_succ_at P d h hh i (by rw [← e]; exact hi)]
  obtain ⟨x, rfl⟩ := rRect_surj k hk i hi
  refine (View.write_emb_of_mem (v := (oM.access (rRect k hk) : View sig .tc _ _ _)) _ _ (Finset.mem_univ x)).trans ?_
  have hx := Shape.reshapeEquiv_cons_one (d := ![16, 512]) shapeCasts_S1x16x512_S16x512 x
  have hix : (rRect k hk).emb x = backIx d ((cRect h hh).emb (Shape.reshapeEquiv shapeCasts_S1x16x512_S16x512 x)) := by
    apply ix512_ext
    · rw [rRect_emb0]
      show _ = 16 * ((d.val + 63 - _) % 32) + _
      rw [cRect_emb0, cRect_emb1, hx, e]; rfl
    · rw [rRect_emb1]
      show _ = ((cRect h hh).emb _ 2).val
      rw [cRect_emb2, hx]; rfl
  show FloatOps.addf (P d ((rRect k hk).emb (Shape.reshapeEquiv shapeCasts_S16x512_S16x512 x)))
      (ringSum P ((cRect h hh).emb (Shape.reshapeEquiv shapeCasts_S1x16x512_S16x512 x) 0).val
        (backIx d ((cRect h hh).emb (Shape.reshapeEquiv shapeCasts_S1x16x512_S16x512 x))))
    = FloatOps.addf (P d ((rRect k hk).emb x)) (ringSum P h ((rRect k hk).emb x))
  rw [Shape.reshapeEquiv_self, ← hix, cRect_emb0]

/-! ## The buffers by blocks -/

theorem rowSet_cover (c : ℕ) : (Finset.univ : Finset S512x512.Idx) =
    (Finset.range 32).biUnion fun j => rowSet ((c + 65 - j) % 32) := by
  ext i
  simp only [Finset.mem_univ, Finset.mem_biUnion, Finset.mem_range, mem_rowSet, true_iff]
  have h0 : (i 0).val < 512 := (i 0).isLt
  exact ⟨(c + 65 - (i 0).val / 16) % 32, Nat.mod_lt _ (by decide), by omega⟩

theorem rowSet_disj (c : ℕ) : ∀ j ∈ Finset.range 32, ∀ j' ∈ Finset.range 32, j ≠ j' →
    Disjoint (rowSet ((c + 65 - j) % 32)) (rowSet ((c + 65 - j') % 32)) := by
  intro j hj j' hj' hne
  rw [Finset.mem_range] at hj hj'
  rw [Finset.disjoint_left]
  intro i hi hi'
  rw [mem_rowSet] at hi hi'
  omega

theorem rowSet_cover' (c : ℕ) : (Finset.univ : Finset S512x512.Idx) =
    (Finset.range 32).biUnion fun j => rowSet ((c + 64 - j) % 32) := by
  ext i
  simp only [Finset.mem_univ, Finset.mem_biUnion, Finset.mem_range, mem_rowSet, true_iff]
  have h0 : (i 0).val < 512 := (i 0).isLt
  exact ⟨(c + 64 - (i 0).val / 16) % 32, Nat.mod_lt _ (by decide), by omega⟩

theorem rowSet_disj' (c : ℕ) : ∀ j ∈ Finset.range 32, ∀ j' ∈ Finset.range 32, j ≠ j' →
    Disjoint (rowSet ((c + 64 - j) % 32)) (rowSet ((c + 64 - j') % 32)) := by
  intro j hj j' hj' hne
  rw [Finset.mem_range] at hj hj'
  rw [Finset.disjoint_left]
  intro i hi hi'
  rw [mem_rowSet] at hi hi'
  omega

theorem slotSet_cover : (Finset.univ : Finset S31x16x512.Idx) = (Finset.range 31).biUnion slotSet := by
  ext j
  simp only [Finset.mem_univ, Finset.mem_biUnion, Finset.mem_range, mem_slotSet, true_iff]
  exact ⟨(j 0).val, (j 0).isLt, rfl⟩

theorem slotSet_disj : ∀ j ∈ Finset.range 31, ∀ j' ∈ Finset.range 31, j ≠ j' → Disjoint (slotSet j) (slotSet j') := by
  intro j _ j' _ hne
  rw [Finset.disjoint_left]
  intro i hi hi'
  rw [mem_slotSet] at hi hi'
  omega

end RingK
-- ==== Proof.Sched.lean ====
/- The protocol of the ring: its cells, what each pays and hands over, what a device owes and the
   levels at which it may wait. -/
module

public import proofs.«01_k».proof.Proof.Contents
public import Idealize.ShloMosaic.Lib.Pipeline.Launch
public import Idealize.ShloMosaic.Lib.Pipeline.Kit
public import Idealize.ShloMosaic.Lib.Ring
public import Idealize.ShloMosaic.Lib.Tactic

@[expose] public section

noncomputable section

namespace RingK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the ring's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The send semaphore of step `t`: the reduce-scatter's are the steps below 31, the all-gather's
    the next 31. -/
def sendQ (t : ℕ) : DmaSem sig := ⟨(if t < 31 then 2 + t else 33 + t) % 126, Nat.mod_lt _ (by decide)⟩
/-- The receive semaphore of step `t`. -/
def recvQ (t : ℕ) : DmaSem sig := ⟨(if t < 31 then 33 + t else 64 + t) % 126, Nat.mod_lt _ (by decide)⟩

theorem sendQ_val {t : ℕ} (ht : t < 62) : (sendQ t).val = if t < 31 then 2 + t else 33 + t := by
  show (if t < 31 then 2 + t else 33 + t) % 126 = _
  split <;> omega
theorem recvQ_val {t : ℕ} (ht : t < 62) : (recvQ t).val = if t < 31 then 33 + t else 64 + t := by
  show (if t < 31 then 33 + t else 64 + t) % 126 = _
  split <;> omega

/-- Whether a semaphore's number is a receive semaphore's. -/
def isRecv (q : ℕ) : Bool := (33 ≤ q && q < 64) || 95 ≤ q
/-- The step a semaphore's number serves. -/
def stepOf (q : ℕ) : ℕ := if q < 33 then q - 2 else if q < 95 then q - 33 else q - 64

theorem isRecv_send {t : ℕ} (ht : t < 62) : isRecv (sendQ t).val = false := by
  rw [sendQ_val ht]; unfold isRecv; split <;> simp <;> omega
theorem isRecv_recv {t : ℕ} (ht : t < 62) : isRecv (recvQ t).val = true := by
  rw [recvQ_val ht]; unfold isRecv; split <;> simp <;> omega
theorem stepOf_send {t : ℕ} (ht : t < 62) : stepOf (sendQ t).val = t := by
  rw [sendQ_val ht]; unfold stepOf; split <;> (repeat' split) <;> omega
theorem stepOf_recv {t : ℕ} (ht : t < 62) : stepOf (recvQ t).val = t := by
  rw [recvQ_val ht]; unfold stepOf; split <;> (repeat' split) <;> omega
theorem two_le_send {t : ℕ} (ht : t < 62) : 2 ≤ (sendQ t).val := by rw [sendQ_val ht]; split <;> omega
theorem two_le_recv {t : ℕ} (ht : t < 62) : 2 ≤ (recvQ t).val := by rw [recvQ_val ht]; split <;> omega

theorem semAt1 (h : ℕ) (hh : h < 31) : semAt cc0_scratch1 h hh = sendQ h := by
  have : ∀ h : Fin 31, semAt cc0_scratch1 h.val h.isLt = sendQ h.val := by decide +kernel
  exact this ⟨h, hh⟩
theorem semAt2 (h : ℕ) (hh : h < 31) : semAt cc0_scratch2 h hh = recvQ h := by
  have : ∀ h : Fin 31, semAt cc0_scratch2 h.val h.isLt = recvQ h.val := by decide +kernel
  exact this ⟨h, hh⟩
theorem semAt3 (h : ℕ) (hh : h < 31) : semAt cc0_scratch3 h hh = sendQ (31 + h) := by
  have : ∀ h : Fin 31, semAt cc0_scratch3 h.val h.isLt = sendQ (31 + h.val) := by decide +kernel
  exact this ⟨h, hh⟩
theorem semAt4 (h : ℕ) (hh : h < 31) : semAt cc0_scratch4 h hh = recvQ (31 + h) := by
  have : ∀ h : Fin 31, semAt cc0_scratch4 h.val h.isLt = recvQ (31 + h.val) := by decide +kernel
  exact this ⟨h, hh⟩

abbrev barCell (c : Dev nD) : GSem nD τ sig := ((c : Thread nD τ), .reg barS)
abbrev sendCell (c : Dev nD) (t : ℕ) : GSem nD τ sig := ((c : Thread nD τ), .dma (sendQ t))
abbrev recvCell (c : Dev nD) (t : ℕ) : GSem nD τ sig := ((c : Thread nD τ), .dma (recvQ t))

/-- The credit of a block's transfer. -/
def N : ℕ := (rowsAt oM ![16 * 0, 0] (inbR 0 (by decide))).view.dmaCredit
theorem N_pos : 0 < N := View.dmaCredit_pos _ (by decide)

/-! ## What the cells hand over -/

/-- Block `k` of device `c`'s output holding `f`. -/
def outPts (c : Dev nD) (k : ℕ) (f : B512 F) : sProp 𝕄 :=
  ((c : Thread nD τ).loc cc0_stg1_0) ↦[(rowSet k : Finset S512x512.Idx)]{fullShare} f
/-- Block `h` of device `c`'s scratch holding `f`. -/
def slotPts (c : Dev nD) (h : ℕ) (f : BC F) : sProp 𝕄 :=
  ((c : Thread nD τ).loc cc0_scratch0) ↦[(slotSet h : Finset S31x16x512.Idx)]{fullShare} f
def anyOut (c : Dev nD) (k : ℕ) : sProp 𝕄 := iprop(∃ f : B512 F, outPts c k f)
def anySlot (c : Dev nD) (h : ℕ) : sProp 𝕄 := iprop(∃ f : BC F, slotPts c h f)
/-- Block `k` of the outputs of the devices `k + j`, `j` in `S`. -/
def perms (k : ℕ) (S : Finset ℕ) : sProp 𝕄 := bigSep S fun j => anyOut (F := F) (dv (k + j)) k

/-- What `nxt c`'s signal hands `c`: its scratch, and that its receive cells are open. -/
def barPay (c : Dev nD) : sProp 𝕄 :=
  iprop(bigSep (Finset.Ico 0 31) (fun h => anySlot (F := F) (nxt c) h) ∗ bigSep (Finset.range 62) fun t => reached ER (recvCell (nxt c) t) 0)

/-- What a landing on device `c` at step `t` hands it. -/
def recvPay (P : Dev nD → B512 F) (c : Dev nD) (t : ℕ) : sProp 𝕄 :=
  if t < 31 then iprop(slotPts c t (commC P c) ∗ perms ((c.val + 63 - t) % 32) (Finset.range (t + 1)))
  else iprop(outPts c ((c.val + 64 - (t - 31)) % 32) (ringSum P 31)
    ∗ perms ((c.val + 64 - (t - 31)) % 32) (Finset.Ico (t - 31 + 1) 31))
/-- What the departure from device `c` at step `t` gives back. -/
def sendPay (P : Dev nD → B512 F) (c : Dev nD) (t : ℕ) : sProp 𝕄 :=
  if t < 31 then iprop(emp) else outPts c ((c.val + 65 - (t - 31)) % 32) (ringSum P 31)

instance outPts_storable (c : Dev nD) (k : ℕ) (f) : BI.Storable (upEmb : UEmb _ 𝕄) (outPts (F := F) c k f) := by
  unfold outPts; infer_instance
instance slotPts_storable (c : Dev nD) (k : ℕ) (f) : BI.Storable (upEmb : UEmb _ 𝕄) (slotPts (F := F) c k f) := by
  unfold slotPts; infer_instance
instance anyOut_storable (c : Dev nD) (k : ℕ) : BI.Storable (upEmb : UEmb _ 𝕄) (anyOut (F := F) c k) := by
  unfold anyOut; infer_instance
instance anySlot_storable (c : Dev nD) (k : ℕ) : BI.Storable (upEmb : UEmb _ 𝕄) (anySlot (F := F) c k) := by
  unfold anySlot; infer_instance
instance perms_storable (k : ℕ) (S) : BI.Storable (upEmb : UEmb _ 𝕄) (perms (F := F) k S) := by
  unfold perms; infer_instance
instance barPay_storable (c : Dev nD) : BI.Storable (upEmb : UEmb _ 𝕄) (barPay (F := F) c) := by
  unfold barPay; infer_instance
instance recvPay_storable (P : Dev nD → B512 F) (c : Dev nD) (t : ℕ) : BI.Storable (upEmb : UEmb _ 𝕄) (recvPay P c t) := by
  unfold recvPay; split <;> infer_instance
instance sendPay_storable (P : Dev nD → B512 F) (c : Dev nD) (t : ℕ) : BI.Storable (upEmb : UEmb _ 𝕄) (sendPay P c t) := by
  unfold sendPay; split <;> infer_instance

/-! ## The schedule -/

abbrev IsBar (g : GSem nD τ sig) : Prop := g.1.2 = .tc ∧ g.2 = .reg barS
/-- The cells of the transfers: the body's own semaphores. -/
def isXfer (g : GSem nD τ sig) : Bool := match g.2 with
  | .reg _ => false
  | .dma q => g.1.2 = .tc && 2 ≤ q.val

def payAt (P : Dev nD → B512 F) (c : Dev nD) (sm : SemLoc sig) (d : Bool) : sProp 𝕄 := match sm with
  | .reg _ => if d then barPay c else iprop(emp)
  | .dma q => if isRecv q.val then recvPay P c (stepOf q.val) else sendPay P c (stepOf q.val)

/-- One round: a barrier cell has two duties of one unit, paid by its two neighbours; a send or a
    receive cell one duty, of a block's credit. -/
def ringRd (P : Dev nD → B512 F) : Rounds.Schedule (GSem nD τ sig) Bool 𝕄 where
  duties g r := if r = 0 ∧ IsBar g then Finset.univ else if r = 0 ∧ isXfer g = true then {false} else ∅
  unitless _ := False
  amount g _ _ := if g.2 = .reg barS then 1 else N
  payload g _ d := payAt P g.1.1 g.2 d
  amount_pos g _ _ _ := by
    by_cases h : g.2 = .reg barS
    · rw [if_pos h]; exact Nat.one_pos
    · rw [if_neg h]; exact N_pos

instance ringRd_payload_storable (P : Dev nD → B512 F) (g : GSem nD τ sig) (r : ℕ) (d : Bool) :
    BI.Storable (upEmb : UEmb _ 𝕄) ((ringRd P).payload g r d) := by
  show BI.Storable upEmb (payAt P g.1.1 g.2 d)
  unfold payAt
  (repeat' split) <;> infer_instance

section Sched
variable (P : Dev nD → B512 F) (c : Dev nD) (t : ℕ)

theorem dma_ne_bar (q : DmaSem sig) : (SemLoc.dma q : SemLoc sig) ≠ .reg barS := fun h => by cases h
theorem not_bar_dma (q : DmaSem sig) : ¬ IsBar (((c : Thread nD τ), .dma q) : GSem nD τ sig) := fun h => dma_ne_bar q h.2
theorem isXfer_dma (q : DmaSem sig) (h : 2 ≤ q.val) : isXfer (((c : Thread nD τ), .dma q) : GSem nD τ sig) = true := by
  unfold isXfer; simp [h]

theorem duties_bar : (ringRd P).duties (barCell c) 0 = Finset.univ := by
  dsimp only [ringRd]; exact if_pos ⟨rfl, rfl, rfl⟩
theorem duties_dma (q : DmaSem sig) (h : 2 ≤ q.val) :
    (ringRd P).duties (((c : Thread nD τ), .dma q) : GSem nD τ sig) 0 = {false} := by
  dsimp only [ringRd]; rw [if_neg (fun h => not_bar_dma c q h.2)]; exact if_pos ⟨rfl, isXfer_dma c q h⟩
theorem duties_later (g : GSem nD τ sig) : ∀ r, 1 ≤ r → (ringRd P).duties g r = ∅ :=
  fun r hr => by dsimp only [ringRd]; rw [if_neg fun h => by omega, if_neg fun h => by omega]

theorem amount_bar (d : Bool) : (ringRd P).amount (barCell c) 0 d = 1 := by dsimp only [ringRd]; exact if_pos rfl
theorem amount_dma (q : DmaSem sig) (d : Bool) : (ringRd P).amount (((c : Thread nD τ), .dma q) : GSem nD τ sig) 0 d = N := by
  dsimp only [ringRd]; exact if_neg (dma_ne_bar q)

theorem expect_bar : (ringRd P).expect (barCell c) 0 = 2 := by
  unfold Schedule.expect Schedule.amountOf
  rw [duties_bar, Finset.sum_congr rfl fun d _ => amount_bar P c d, Finset.sum_const, Finset.card_univ, Fintype.card_bool, smul_eq_mul]
theorem expect_dma (q : DmaSem sig) (h : 2 ≤ q.val) : (ringRd P).expect (((c : Thread nD τ), .dma q) : GSem nD τ sig) 0 = N := by
  unfold Schedule.expect Schedule.amountOf; rw [duties_dma P c q h, Finset.sum_singleton, amount_dma]

theorem payload_bar_true : (ringRd P).payload (barCell c) 0 true = barPay c := rfl
theorem payload_bar_false : (ringRd P).payload (barCell c) 0 false = iprop(emp) := rfl
theorem payload_send (ht : t < 62) (d : Bool) : (ringRd P).payload (sendCell c t) 0 d = sendPay P c t := by
  show (if isRecv (sendQ t).val then recvPay P c (stepOf (sendQ t).val) else sendPay P c (stepOf (sendQ t).val)) = _
  rw [isRecv_send ht, stepOf_send ht]; rfl
theorem payload_recv (ht : t < 62) (d : Bool) : (ringRd P).payload (recvCell c t) 0 d = recvPay P c t := by
  show (if isRecv (recvQ t).val then recvPay P c (stepOf (recvQ t).val) else sendPay P c (stepOf (recvQ t).val)) = _
  rw [isRecv_recv ht, stepOf_recv ht]; rfl

theorem rest_bar : bigSep ((ringRd P).duties (barCell c) 0 \ ∅) (fun d => (ringRd P).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
theorem rest_send (ht : t < 62) :
    bigSep ((ringRd P).duties (sendCell c t) 0 \ ∅) (fun d => (ringRd P).payload (sendCell c t) 0 d) = sendPay P c t := by
  rw [Finset.sdiff_empty, duties_dma P c _ (two_le_send ht), bigSep_singleton, payload_send P c t ht]
theorem rest_recv (ht : t < 62) :
    bigSep ((ringRd P).duties (recvCell c t) 0 \ ∅) (fun d => (ringRd P).payload (recvCell c t) 0 d) = recvPay P c t := by
  rw [Finset.sdiff_empty, duties_dma P c _ (two_le_recv ht), bigSep_singleton, payload_recv P c t ht]

end Sched

/-! ## What a device owes; the levels -/

/-- The receive credits device `c` still owes its right neighbour before step `t`. -/
def Or (c : Dev nD) (t : ℕ) : CellTallies nD τ sig Unit := ∑ s ∈ Finset.Ico t 62, tallyAt (recvCell (nxt c) s) () N
def O₁ (c : Dev nD) : CellTallies nD τ sig Unit := Or c 0 + tallyAt (barCell (nxt c)) () 1
def O₀ (c : Dev nD) : CellTallies nD τ sig Unit := O₁ c + tallyAt (barCell (prv c)) () 1

theorem Or_succ (c : Dev nD) {t : ℕ} (ht : t < 62) : Or c t = Or c (t + 1) + tallyAt (recvCell (nxt c) t) () N := by
  unfold Or; rw [Ring.sum_Ico_succ ht, add_comm]
theorem Or_last (c : Dev nD) : Or c 62 = 0 := by unfold Or; rw [Finset.Ico_self, Finset.sum_empty]

def L (g : GSem nD τ sig) : Finset Unit := if g.1.2 = .tc then {()} else ∅
/-- Barrier cells at 1, the receive cell of step `t` at `t + 2`, everything else at 0. -/
def lv (g : GSem nD τ sig) (_ : Unit) : ℕ := match g.2 with
  | .reg _ => 1
  | .dma q => if isRecv q.val then stepOf q.val + 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) {t : ℕ} (ht : t < 62) (u : Unit) : lv (recvCell c t) u = t + 2 := by
  show (if isRecv (recvQ t).val then stepOf (recvQ t).val + 2 else 0) = _
  rw [isRecv_recv ht, stepOf_recv ht]; rfl
theorem lv_send (c : Dev nD) {t : ℕ} (ht : t < 62) (u : Unit) : lv (sendCell c t) u = 0 := by
  show (if isRecv (sendQ t).val then stepOf (sendQ t).val + 2 else 0) = _
  rw [isRecv_send ht]; rfl

theorem Or_pos {c : Dev nD} {t : ℕ} {g : GSem nD τ sig} {u : Unit} (h : 0 < Or c t g u) :
    ∃ s, t ≤ s ∧ s < 62 ∧ g = recvCell (nxt c) s := by
  unfold Or at h
  rw [Finset.sum_apply, Finsupp.finset_sum_apply] at h
  obtain ⟨s, hs, hp⟩ := Finset.exists_ne_zero_of_sum_ne_zero h.ne'
  rw [Finset.mem_Ico] at hs
  refine ⟨s, hs.1, hs.2, ?_⟩
  rw [tallyAt_apply] at hp
  by_contra hn
  rw [if_neg (fun h' => hn h'.1)] at hp
  exact hp rfl

theorem O₀_pos {c : Dev nD} {g : GSem nD τ sig} {u : Unit} (h : 0 < O₀ c g u) :
    (∃ s, s < 62 ∧ g = recvCell (nxt c) s) ∨ g = barCell (nxt c) ∨ g = barCell (prv c) := by
  by_contra hn
  rw [not_or, not_or] at hn
  have e1 : tallyAt (barCell (nxt c)) () 1 g u = 0 := by rw [tallyAt_apply, if_neg (fun h' => hn.2.1 h'.1)]
  have e2 : tallyAt (barCell (prv c)) () 1 g u = 0 := by rw [tallyAt_apply, if_neg (fun h' => hn.2.2 h'.1)]
  have e : O₀ c g u = Or c 0 g u + tallyAt (barCell (nxt c)) () 1 g u + tallyAt (barCell (prv c)) () 1 g u := by
    unfold O₀ O₁; rw [Pi.add_apply, Finsupp.add_apply, Pi.add_apply, Finsupp.add_apply]
  rw [e, e1, e2, Nat.add_zero] at h
  obtain ⟨s, _, hs, hg⟩ := Or_pos h
  exact hn.1 ⟨s, hs, hg⟩

theorem mem_L_of_Or {c : Dev nD} {t : ℕ} {g : GSem nD τ sig} {u : Unit} (h : 0 < Or c t g u) : u ∈ L g := by
  obtain ⟨s, _, _, hg⟩ := Or_pos h
  rw [hg, L_tc]; exact Finset.mem_singleton_self _
theorem lv_of_Or {c : Dev nD} {t b : ℕ} (hbt : b < t + 2) {g : GSem nD τ sig} {u : Unit} (h : 0 < Or c t g u) : b < lv g u := by
  obtain ⟨s, hs, hs', hg⟩ := Or_pos h
  rw [hg, lv_recv _ hs']; omega

/-- A wait whose cell lies below everything the device still owes. -/
theorem mayWait_of (c : Dev nD) (t b : ℕ) (sm : SemLoc sig) (hb : lv ((c : Thread nD τ), sm) () ≤ b) (hbt : b < t + 2) :
    (levAts L lv : sProp 𝕄) ⊢ MayWait (c : Thread nD τ) sm () (Or c t) :=
  MayOwe.of_cut (L := L) (lev := lv) b (fun p hp => by rw [Finset.mem_singleton.mp hp, L_tc]; exact Finset.mem_singleton_self _)
    (fun g u hg => mem_L_of_Or hg) (fun p hp => by rw [Finset.mem_singleton.mp hp]; exact hb) (fun g u hg => lv_of_Or hbt hg)

theorem mayWait_bar (c : Dev nD) : (levAts L lv : sProp 𝕄) ⊢ MayWait (c : Thread nD τ) (.reg barS) () (Or c 0) :=
  mayWait_of c 0 1 _ le_rfl (by decide)
theorem mayWait_send (c : Dev nD) {t : ℕ} (ht : t < 62) (t' : ℕ) :
    (levAts L lv : sProp 𝕄) ⊢ MayWait (c : Thread nD τ) (.dma (sendQ t)) () (Or c t') :=
  mayWait_of c t' 0 _ (lv_send c ht ()).le (by omega)
theorem mayWait_recv (c : Dev nD) {t : ℕ} (ht : t < 62) :
    (levAts L lv : sProp 𝕄) ⊢ MayWait (c : Thread nD τ) (.dma (recvQ t)) () (Or c (t + 1)) :=
  mayWait_of c (t + 1) (t + 2) _ (lv_recv c ht ()).le (by omega)

end RingK
-- ==== Proof.Steps.lean ====
/- One step of each phase of the ring, from the device's state before it to its state after it. -/
module

public import proofs.«01_k».proof.Proof.Sched

@[expose] public section

noncomputable section

namespace RingK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The core of device `c` runs `p` and then satisfies `Q`. -/
abbrev WP (c : Dev nD) (p : PK F) (Q : PUnit → sProp 𝕄) : sProp 𝕄 :=
  wp frame (wpE (defs₀ (F := F)) 𝒱₀ (c : Thread nD τ) none) Set.univ p Q

/-! ## Families over intervals -/

theorem sep_head {a b : ℕ} (h : a < b) (Φ : ℕ → sProp 𝕄) :
    bigSep (Finset.Ico a b) Φ = iprop(Φ a ∗ bigSep (Finset.Ico (a + 1) b) Φ) := by
  rw [Ring.Ico_eq_insert h, BI.bigSep_insert (by simp)]; rfl
theorem sep_last (n : ℕ) (Φ : ℕ → sProp 𝕄) :
    bigSep (Finset.range (n + 1)) Φ = iprop(Φ n ∗ bigSep (Finset.range n) Φ) := by
  rw [Finset.range_add_one, BI.bigSep_insert (by simp)]; rfl

/-! ## The points-tos as the views see them -/

theorem outPts_eq (c : Dev nD) (k : ℕ) (hk : k < 32) (f : B512 F) :
    (outPts c k f : sProp 𝕄) = ((rowsAt oM ![16 * k, 0] (inbR k hk)).view.loc (c : Thread nD τ)
      ↦[(rowsAt oM ![16 * k, 0] (inbR k hk)).view.set]{fullShare} f) := by
  unfold outPts; rw [rows_set k hk]
theorem slotPts_eq (c : Dev nD) (h : ℕ) (hh : h < 31) (f : BC F) :
    (slotPts c h f : sProp 𝕄) = ((commAt cM h hh).view.loc (c : Thread nD τ)
      ↦[(commAt cM h hh).view.set]{fullShare} f) := by
  unfold slotPts; rw [comm_set h hh]
theorem outPts_congr (c : Dev nD) (k : ℕ) {f g : B512 F} (h : ∀ i ∈ rowSet k, f i = g i) :
    (outPts c k f : sProp 𝕄) = outPts c k g := by
  unfold outPts; exact pointsTo_congr h
theorem slotPts_congr (c : Dev nD) (k : ℕ) {f g : BC F} (h : ∀ i ∈ slotSet k, f i = g i) :
    (slotPts c k f : sProp 𝕄) = slotPts c k g := by
  unfold slotPts; exact pointsTo_congr h

theorem amt_comm (h : ℕ) (hh : h < 31) (q : DmaSem sig) : (commAt cM h hh).view.amount (.dma q) = N := rfl
theorem amt_rows (k : ℕ) (hk : k < 32) (q : DmaSem sig) : (rowsAt oM ![16 * k, 0] (inbR k hk)).view.amount (.dma q) = N := rfl

section Steps

variable (P : Dev nD → B512 F) (K : GSem nD τ sig → ℕ) (c : Dev nD)

/-- The record a device works under: every cell's invariant, at the names the launch gave. -/
@[irreducible] def barCells : Finset (GSem nD τ sig) := Finset.univ.image barCell
@[irreducible] def sendCells : Finset (GSem nD τ sig) := (Finset.univ ×ˢ Finset.range 62).image fun p : Dev nD × ℕ => sendCell p.1 p.2
@[irreducible] def recvCells : Finset (GSem nD τ sig) := (Finset.univ ×ˢ Finset.range 62).image fun p : Dev nD × ℕ => recvCell p.1 p.2
@[irreducible] def cells : Finset (GSem nD τ sig) := barCells ∪ (sendCells ∪ recvCells)
def recs : sProp 𝕄 := iprop(bigSep cells (fun g => cellInv ER (ringRd P) (K g) g) ∗ levAts L lv)
instance recs_persistent : BI.Persistent (recs P K) := by unfold recs; infer_instance

theorem mem_cells_bar : barCell c ∈ cells := by
  unfold cells barCells
  rw [Finset.mem_union]
  exact Or.inl (Finset.mem_image.mpr ⟨c, Finset.mem_univ c, rfl⟩)
theorem mem_cells_send {t : ℕ} (ht : t < 62) : sendCell c t ∈ cells := by
  unfold cells sendCells
  rw [Finset.mem_union, Finset.mem_union]
  exact Or.inr (Or.inl (Finset.mem_image.mpr ⟨(c, t), Finset.mk_mem_product (Finset.mem_univ c) (Finset.mem_range.mpr ht), rfl⟩))
theorem mem_cells_recv {t : ℕ} (ht : t < 62) : recvCell c t ∈ cells := by
  unfold cells recvCells
  rw [Finset.mem_union, Finset.mem_union]
  exact Or.inr (Or.inr (Finset.mem_image.mpr ⟨(c, t), Finset.mk_mem_product (Finset.mem_univ c) (Finset.mem_range.mpr ht), rfl⟩))
theorem recs_inv {g : GSem nD τ sig} (h : g ∈ cells) : recs P K ⊢ cellInv ER (ringRd P) (K g) g := by
  have h' : bigSep cells (fun g => cellInv ER (ringRd P) (K g) g) ⊢ cellInv ER (ringRd P) (K g) g := bigSep_elim h
  unfold recs
  iintro ⟨H, -⟩
  iapply h' $$ H
theorem recs_lev {X : sProp 𝕄} (h : (levAts L lv : sProp 𝕄) ⊢ X) : recs P K ⊢ X := by
  unfold recs
  iintro ⟨-, H⟩
  iapply h $$ H

/-- The record after the prologue: also that the cells it sends through are open. -/
def ctx : sProp 𝕄 := iprop(recs P K ∗ bigSep (Finset.range 62) (fun t => reached ER (sendCell c t) 0)
  ∗ bigSep (Finset.range 62) fun t => reached ER (recvCell (nxt c) t) 0)
instance ctx_persistent : BI.Persistent (ctx P K c) := by unfold ctx; infer_instance

/-- What device `c` spends at step `t`. -/
def tok (t : ℕ) : sProp 𝕄 :=
  iprop(dutyTok ER (sendCell c t) 0 false ∗ dutyTok ER (recvCell (nxt c) t) 0 false
    ∗ atPos ER (sendCell c t) 0 ∅ 0 ∗ atPos ER (recvCell c t) 0 ∅ 0 ∗ cred (tallyAt (recvCell c t) () N))
/-- What it has of the cells of step `t` when it is through. -/
def zer (t : ℕ) : sProp 𝕄 := iprop(semVal (sendCell c t) 0 ∗ semVal (recvCell c t) 0)
def ow (t : ℕ) : sProp 𝕄 := iprop(∃ W : Waits sig Unit, owes (c : Thread nD τ) (Or c t) W)

/-- Device `c` before step `s` of the reduce-scatter. -/
def RS (s : ℕ) : sProp 𝕄 :=
  iprop(bigSep (Finset.Ico s 62) (tok (F := F) c) ∗ bigSep (Finset.range s) (zer (F := F) c) ∗ ow c s
    ∗ outPts c ((c.val + 64 - s) % 32) (ringSum P s)
    ∗ bigSep (Finset.Ico (s + 1) 32) (fun j => outPts c ((c.val + 64 - j) % 32) (P c))
    ∗ perms ((c.val + 64 - s) % 32) (Finset.range s)
    ∗ bigSep (Finset.range s) (fun j => anySlot (F := F) c j)
    ∗ bigSep (Finset.Ico s 31) (fun j => anySlot (F := F) (nxt c) j))

/-- Device `c` before step `g` of the all-gather. -/
def AG (g : ℕ) : sProp 𝕄 :=
  iprop(bigSep (Finset.Ico (31 + g) 62) (tok (F := F) c) ∗ bigSep (Finset.range (31 + g)) (zer (F := F) c) ∗ ow c (31 + g)
    ∗ outPts c ((c.val + 65 - g) % 32) (ringSum P 31)
    ∗ bigSep (Finset.range g) (fun j => outPts c ((c.val + 65 - j) % 32) (ringSum P 31))
    ∗ perms ((c.val + 65 - g) % 32) (Finset.Ico g 31))

/-! ## The sends -/

theorem wp_send_rs (n : Dev nD) (hn : n = nxt c) (s : ℕ) (hs : s < 31) (k : ℕ) (hk : k = (c.val + 64 - s) % 32) (hk' : k < 32)
    (q1 q2 : DmaSem sig) (h1 : q1 = sendQ s) (h2 : q2 = recvQ s)
    {hsc : (commAt cM s hs : Memref sig (Dev.tc n : Thread nD τ).2.kind .vmem S16x512 .f32).view.ref.isScScratch = false}
    {hsrc : (rowsAt oM ![16 * k, 0] (inbR k hk')).view.WordExact} {hdst : (commAt cM s hs).view.WordExact}
    {hsem : DmaTarget.Typed .vmem (.dma q2) (.remote (Dev.tc n : Thread nD τ) (commAt cM s hs) (.dma q1) hsc)}
    {Q : PUnit → sProp 𝕄} {kk : PUnit → PK F} (fn : BC F) (W : Waits sig Unit) :
    iprop(cellInv ER (ringRd P) (K (sendCell c s)) (sendCell c s) ∗ cellInv ER (ringRd P) (K (recvCell (nxt c) s)) (recvCell (nxt c) s)
        ∗ outPts c k (ringSum P s) ∗ (slotPts (nxt c) s fn ∗ perms k (Finset.range s))
        ∗ owes (c : Thread nD τ) (Or c s) W
        ∗ dutyTok ER (sendCell c s) 0 false ∗ reached ER (sendCell c s) 0
        ∗ dutyTok ER (recvCell (nxt c) s) 0 false ∗ reached ER (recvCell (nxt c) s) 0)
      ⊢ iprop(((cred (tallyAt (sendCell c s) () N) ∗ owes (c : Thread nD τ) (Or c (s + 1)) W) -∗ WP c (kk ⟨⟩) Q)
          -∗ WP c (.op (.enqueueDma (rowsAt oM ![16 * k, 0] (inbR k hk')) (.remote (Dev.tc n : Thread nD τ) (commAt cM s hs) (.dma q1) hsc)
            (.dma q2) hsrc hdst hsem) kk) Q) := by
  subst hn h1 h2
  have hs62 : s < 62 := by omega
  rw [outPts_eq c k hk', slotPts_eq (nxt c) s hs]
  refine Rounds.wp_send_landing_pointsTo_with 𝒱₀ ER (ringRd P) (c : Thread nD τ) none (κ₁ := K (sendCell c s)) (κ₂ := K (recvCell (nxt c) s))
    (r₁ := 0) (r₂ := 0) (d₁ := false) (d₂ := false) (fd := fn)
    (by rw [duties_dma P c _ (two_le_send hs62)]; exact Finset.mem_singleton_self _)
    (by rw [duties_dma P (nxt c) _ (two_le_recv hs62)]; exact Finset.mem_singleton_self _)
    () () N (amt_comm s hs _) (amount_dma P c _ false) (amount_dma P (nxt c) _ false) (Or c (s + 1)) (Or_succ c hs62) (W := W) ?_ ?_
  · rw [payload_send P c s hs62]; unfold sendPay; rw [if_pos hs]
  · rw [payload_recv P (nxt c) s hs62]; unfold recvPay; rw [if_pos hs]
    have ek : ((nxt c).val + 63 - s) % 32 = k := by rw [nxt_val, hk]; have := dev_lt c; omega
    have edv : dv (k + s) = c := dv_at (by rw [hk]; have := dev_lt c; omega)
    rw [ek]
    unfold perms
    rw [sep_last, edv, ← slotPts_eq (nxt c) s hs, ← outPts_eq c k hk',
      slotPts_congr (nxt c) s (write_slot P (nxt c) s k hs hk' ek.symm fn)]
    iintro ⟨⟨H1, H2⟩, H3⟩
    isplitl [H1]; · iexact H1
    isplitl [H3]; · unfold anyOut; iexists (ringSum P s); iexact H3
    iexact H2

theorem wp_send_ag (n : Dev nD) (hn : n = nxt c) (g : ℕ) (hg : g < 31) (k : ℕ) (hk : k = (c.val + 65 - g) % 32) (hk' : k < 32)
    (q1 q2 : DmaSem sig) (h1 : q1 = sendQ (31 + g)) (h2 : q2 = recvQ (31 + g))
    {hsc : (rowsAt oM ![16 * k, 0] (inbR k hk') : Memref sig (Dev.tc n : Thread nD τ).2.kind .vmem S16x512 .f32).view.ref.isScScratch = false}
    {hsrc : (rowsAt oM ![16 * k, 0] (inbR k hk')).view.WordExact} {hdst : (rowsAt oM ![16 * k, 0] (inbR k hk')).view.WordExact}
    {hsem : DmaTarget.Typed .vmem (.dma q2) (.remote (Dev.tc n : Thread nD τ) (rowsAt oM ![16 * k, 0] (inbR k hk')) (.dma q1) hsc)}
    {Q : PUnit → sProp 𝕄} {kk : PUnit → PK F} (fn : B512 F) (W : Waits sig Unit) :
    iprop(cellInv ER (ringRd P) (K (sendCell c (31 + g))) (sendCell c (31 + g))
        ∗ cellInv ER (ringRd P) (K (recvCell (nxt c) (31 + g))) (recvCell (nxt c) (31 + g))
        ∗ outPts c k (ringSum P 31) ∗ (outPts (nxt c) k fn ∗ perms k (Finset.Ico (g + 1) 31))
        ∗ owes (c : Thread nD τ) (Or c (31 + g)) W
        ∗ dutyTok ER (sendCell c (31 + g)) 0 false ∗ reached ER (sendCell c (31 + g)) 0
        ∗ dutyTok ER (recvCell (nxt c) (31 + g)) 0 false ∗ reached ER (recvCell (nxt c) (31 + g)) 0)
      ⊢ iprop(((cred (tallyAt (sendCell c (31 + g)) () N) ∗ owes (c : Thread nD τ) (Or c (31 + g + 1)) W) -∗ WP c (kk ⟨⟩) Q)
          -∗ WP c (.op (.enqueueDma (rowsAt oM ![16 * k, 0] (inbR k hk')) (.remote (Dev.tc n : Thread nD τ) (rowsAt oM ![16 * k, 0] (inbR k hk'))
            (.dma q1) hsc) (.dma q2) hsrc hdst hsem) kk) Q) := by
  subst hn h1 h2
  have hs62 : 31 + g < 62 := by omega
  have hns : ¬ 31 + g < 31 := by omega
  rw [outPts_eq c k hk', outPts_eq (nxt c) k hk']
  refine Rounds.wp_send_pointsTo_with 𝒱₀ ER (ringRd P) (c : Thread nD τ) none (κ₁ := K (sendCell c (31 + g))) (κ₂ := K (recvCell (nxt c) (31 + g)))
    (r₁ := 0) (r₂ := 0) (d₁ := false) (d₂ := false) (fd := fn)
    (by rw [duties_dma P c _ (two_le_send hs62)]; exact Finset.mem_singleton_self _)
    (by rw [duties_dma P (nxt c) _ (two_le_recv hs62)]; exact Finset.mem_singleton_self _)
    () () N (amt_rows k hk' _) (amount_dma P c _ false) (amount_dma P (nxt c) _ false) (Or c (31 + g + 1)) (Or_succ c hs62) (W := W) ?_ ?_
  · rw [payload_send P c _ hs62]; unfold sendPay; rw [if_neg hns, Nat.add_sub_cancel_left, ← hk, outPts_eq c k hk']
  · rw [payload_recv P (nxt c) _ hs62]; unfold recvPay; rw [if_neg hns, Nat.add_sub_cancel_left]
    have ek : ((nxt c).val + 64 - g) % 32 = k := by rw [nxt_val, hk]; have := dev_lt c; omega
    rw [ek, ← outPts_eq (nxt c) k hk', outPts_congr (nxt c) k (write_rows k hk' fn (ringSum P 31))]

end Steps

end RingK
-- ==== Proof.Phases.lean ====
/- The two phases of the ring, step by step. -/
module

public import proofs.«01_k».proof.Proof.Steps

@[expose] public section

noncomputable section

namespace RingK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Phases

variable (P : Dev nD → B512 F) (K : GSem nD τ sig → ℕ) (c : Dev nD)

/-- A device's wait at one of its transfer cells, the cell closed afterwards. -/
theorem wp_wait_cell (q : DmaSem sig) (h2 : 2 ≤ q.val) {src dst : Memref sig .tc .vmem S16x512 .f32}
    {hsrc : src.view.WordExact} {hdst : dst.view.WordExact} {Q : PUnit → sProp 𝕄} {kk : PUnit → PK F}
    (O : CellTallies nD τ sig Unit) (W : Waits sig Unit) :
    iprop(cellInv ER (ringRd P) (K ((c : Thread nD τ), .dma q)) ((c : Thread nD τ), .dma q)
        ∗ cred (tallyAt ((c : Thread nD τ), .dma q) () N) ∗ owes (c : Thread nD τ) O W
        ∗ MayWait (c : Thread nD τ) (.dma q) () O ∗ atPos ER ((c : Thread nD τ), .dma q) 0 ∅ 0)
      ⊢ iprop(((owes (c : Thread nD τ) O (insert (.dma q, ()) W) ∗ semVal ((c : Thread nD τ), .dma q) 0
            ∗ bigSep ((ringRd P).duties ((c : Thread nD τ), .dma q) 0 \ ∅) (fun d => (ringRd P).payload ((c : Thread nD τ), .dma q) 0 d))
              -∗ WP c (kk ⟨⟩) Q)
          -∗ WP c (.op (.waitDma2 q src dst hsrc hdst) kk) Q) := by
  iintro ⟨#HI, Hc, HO, HM, Hat⟩ Hk
  iapply (Rounds.wp_wait_rest_token 𝒱₀ ER (ringRd P) (c : Thread nD τ) none (κ := K ((c : Thread nD τ), .dma q))
      (wpE_waitDma2_eq 𝒱₀ (c : Thread nD τ) none Set.univ) (Set.mem_univ _) () (O := O) (W := W) (R := 0) (m := 0) (T := ∅)
      (by rw [Nat.zero_add, expect_dma P c q h2]; rfl)) $$ [Hc HO HM Hat]
  · isplitr; · iexact HI
    isplitl [Hc]; · iexact Hc
    isplitl [HO]; · iexact HO
    isplitl [HM]; · iexact HM
    iexact Hat
  iintro ⟨HO, Hat, -, Hpay⟩
  imod (Rounds.cell_close ER (ringRd P) (Set.mem_univ (K ((c : Thread nD τ), .dma q))) (fun h => h) (R := 0 + 1)
    (duties_later P _)) $$ [Hat] with Hz
  · isplitr; · iexact HI
    iexact Hat
  iapply Hk
  isplitl [HO]; · iexact HO
  isplitl [Hz]; · iexact Hz
  iexact Hpay

/-- The addition of a step: the block that came in added to the device's own partial block. -/
theorem wp_add (s : ℕ) (hs : s < 31) (k : ℕ) (hk : k = (c.val + 63 - s) % 32) (hk' : k < 32)
    {l1 l3 : oM.view.LoadsAt (rRect k hk').toLoadRect} {l2 : cM.view.LoadsAt (cRect s hs).toLoadRect}
    {hx : (oM.access (rRect k hk')).Stores Finset.univ} {hm : Finset.univ = (Finset.univ : Finset (rRect k hk').shape.Idx) ∨ ∀ a, (rRect k hk').stride a = 1}
    {Q : PUnit → sProp 𝕄} {p : PK F} :
    iprop(outPts c k (P c) ∗ slotPts c s (commC P c))
      ⊢ iprop((((outPts c k (ringSum P (s + 1)) ∗ slotPts c s (commC P c))) -∗ WP c p Q)
          -∗ WP c (.op (.load oM (rRect k hk').toLoadRect l1) fun v => .op (.load cM (cRect s hs).toLoadRect l2) fun w =>
            .op (.load oM (rRect k hk').toLoadRect l3) fun _ => .op (.store oM (rRect k hk') (addBlk v w) Finset.univ hx hm) fun _ => p) Q) := by
  have so : oM.view.setOn (rRect k hk').toLoadRect.set ⊆ (rowSet k : Finset S512x512.Idx) :=
    ((View.set_slice oM.view (rRect k hk')).symm.trans (rows_set k hk')).le
  have sc : cM.view.setOn (cRect s hs).toLoadRect.set ⊆ (slotSet s : Finset S31x16x512.Idx) :=
    ((View.set_slice cM.view (cRect s hs)).symm.trans ((View.set_slice_whole cc0_scratch0 (cRect s hs)).trans (cRect_set s hs))).le
  have sw : (oM.access (rRect k hk')).setOn Finset.univ ⊆ (rowSet k : Finset S512x512.Idx) := (rows_set k hk').le
  iintro ⟨Ho, Hs⟩ Hk
  unfold outPts slotPts
  iapply (wp_load 𝒱₀ (c : Thread nD τ) none Set.univ (m := oM) (r := (rRect k hk').toLoadRect) so) $$ Ho
  iintro Ho
  iapply (wp_load 𝒱₀ (c : Thread nD τ) none Set.univ (m := cM) (r := (cRect s hs).toLoadRect) sc) $$ Hs
  iintro Hs
  iapply (wp_load 𝒱₀ (c : Thread nD τ) none Set.univ (m := oM) (r := (rRect k hk').toLoadRect) so) $$ Ho
  iintro Ho
  iapply (wp_store 𝒱₀ (c : Thread nD τ) none Set.univ (m := oM) (r := rRect k hk') (Mk := Finset.univ) sw) $$ Ho
  iintro Ho
  iapply Hk
  isplitl [Ho]
  · ihave Ho := (Entails.of_eq (pointsTo_congr (write_add P c s k hs hk' hk))) $$ Ho
    iexact Ho
  iexact Hs

theorem reached_send {t : ℕ} (ht : t < 62) :
    (bigSep (Finset.range 62) (fun t => reached ER (sendCell c t) 0) : sProp 𝕄) ⊢ reached ER (sendCell c t) 0 :=
  bigSep_elim (Φ := fun t => reached ER (sendCell c t) 0) (Finset.mem_range.mpr ht)
theorem reached_recv {t : ℕ} (ht : t < 62) :
    (bigSep (Finset.range 62) (fun t => reached ER (recvCell c t) 0) : sProp 𝕄) ⊢ reached ER (recvCell c t) 0 :=
  bigSep_elim (Φ := fun t => reached ER (recvCell c t) 0) (Finset.mem_range.mpr ht)

theorem RS_peel (s : ℕ) (hs : s < 31) : RS P c s =
    iprop((tok c s ∗ bigSep (Finset.Ico (s + 1) 62) (tok (F := F) c)) ∗ bigSep (Finset.range s) (zer (F := F) c) ∗ ow c s
      ∗ outPts c ((c.val + 64 - s) % 32) (ringSum P s)
      ∗ (outPts c ((c.val + 63 - s) % 32) (P c) ∗ bigSep (Finset.Ico (s + 1 + 1) 32) (fun j => outPts c ((c.val + 64 - j) % 32) (P c)))
      ∗ perms ((c.val + 64 - s) % 32) (Finset.range s)
      ∗ bigSep (Finset.range s) (fun j => anySlot (F := F) c j)
      ∗ (anySlot (nxt c) s ∗ bigSep (Finset.Ico (s + 1) 31) (fun j => anySlot (F := F) (nxt c) j))) := by
  unfold RS
  rw [sep_head (a := s) (b := 62) (by omega), sep_head (a := s + 1) (b := 32) (by omega), sep_head (a := s) (b := 31) hs,
    show c.val + 64 - (s + 1) = c.val + 63 - s by omega]

theorem RS_succ (s : ℕ) (hs : s < 31) : RS P c (s + 1) =
    iprop(bigSep (Finset.Ico (s + 1) 62) (tok (F := F) c) ∗ (zer c s ∗ bigSep (Finset.range s) (zer (F := F) c)) ∗ ow c (s + 1)
      ∗ outPts c ((c.val + 63 - s) % 32) (ringSum P (s + 1))
      ∗ bigSep (Finset.Ico (s + 1 + 1) 32) (fun j => outPts c ((c.val + 64 - j) % 32) (P c))
      ∗ perms ((c.val + 63 - s) % 32) (Finset.range (s + 1))
      ∗ (anySlot c s ∗ bigSep (Finset.range s) (fun j => anySlot (F := F) c j))
      ∗ bigSep (Finset.Ico (s + 1) 31) (fun j => anySlot (F := F) (nxt c) j)) := by
  unfold RS
  rw [sep_last s (zer c), sep_last s (fun j => anySlot c j), show c.val + 64 - (s + 1) = c.val + 63 - s by omega]

/-- One step of the reduce-scatter. -/
theorem rs_step (n : Dev nD) (hn : n = nxt c) (s : ℕ) (hs : s < 31) (o1 o2 : Fin 2 → ℕ)
    (i1 : ∀ a, o1 a + S16x512.size a ≤ S512x512.size a) (i2 : ∀ a, o2 a + S16x512.size a ≤ S512x512.size a)
    (e1 : o1 = ![16 * ((c.val + 64 - s) % 32), 0]) (e2 : o2 = ![16 * ((c.val + 63 - s) % 32), 0])
    {Q : PUnit → sProp 𝕄} {p : PK F} :
    iprop(ctx P K c ∗ RS P c s ∗ (RS P c (s + 1) -∗ WP c p Q))
      ⊢ WP c (rsK oM cM cc0_scratch1 cc0_scratch2 n o1 o2 i1 i2 s hs p) Q := by
  subst e1 e2
  have k1 : (c.val + 64 - s) % 32 < 32 := Nat.mod_lt _ (by decide)
  have k2 : (c.val + 63 - s) % 32 < 32 := Nat.mod_lt _ (by decide)
  have h62 : s < 62 := by omega
  unfold rsK
  rw [RS_peel P c s hs, RS_succ P c s hs]
  unfold ctx tok ow
  iintro ⟨⟨#Hrec, #HrS, #HrV⟩, ⟨⟨⟨HtS, HtV, HatS, HatV, HcV⟩, Htoks⟩, Hz, ⟨%W, HO⟩, Hsrc, ⟨Hadd, Hrest⟩, Hperm, Hslots, ⟨Hdst, Hdsts⟩⟩, Hk⟩
  ihave #HIsnd := (recs_inv P K (mem_cells_send c h62)) $$ Hrec
  ihave #HIrcv := (recs_inv P K (mem_cells_recv c h62)) $$ Hrec
  ihave #HIrcvN := (recs_inv P K (mem_cells_recv (nxt c) h62)) $$ Hrec
  unfold anySlot
  icases Hdst with ⟨%fn, Hdst⟩
  iapply (wp_send_rs P K c n hn s hs _ rfl k1 _ _ (semAt1 s hs) (semAt2 s hs) fn W) $$ [Hsrc Hdst Hperm HO HtS HtV]
  · isplitr; · iexact HIsnd
    isplitr; · iexact HIrcvN
    isplitl [Hsrc]; · iexact Hsrc
    isplitl [Hdst Hperm]
    · isplitl [Hdst]; · iexact Hdst
      iexact Hperm
    isplitl [HO]; · iexact HO
    isplitl [HtS]; · iexact HtS
    isplitr; · iapply (reached_send c h62) $$ HrS
    isplitl [HtV]; · iexact HtV
    iapply (reached_recv (nxt c) h62) $$ HrV
  iintro ⟨HcS, HO⟩
  rw [semAt1 s hs, semAt2 s hs]
  iapply (wp_wait_cell P K c (sendQ s) (two_le_send h62) (Or c (s + 1)) W) $$ [HcS HO HatS]
  · isplitr; · iexact HIsnd
    isplitl [HcS]; · iexact HcS
    isplitl [HO]; · iexact HO
    isplitr; · iapply (recs_lev P K (mayWait_send c h62 (s + 1))) $$ Hrec
    iexact HatS
  iintro ⟨HO, HzS, -⟩
  iapply (wp_wait_cell P K c (recvQ s) (two_le_recv h62) (Or c (s + 1)) (insert (.dma (sendQ s), ()) W)) $$ [HcV HO HatV]
  · isplitr; · iexact HIrcv
    isplitl [HcV]; · iexact HcV
    isplitl [HO]; · iexact HO
    isplitr; · iapply (recs_lev P K (mayWait_recv c h62)) $$ Hrec
    iexact HatV
  iintro ⟨HO, HzV, Hpay⟩
  ihave Hp := (Entails.of_eq ((rest_recv P c s h62).trans (by unfold recvPay; rw [if_pos hs]))) $$ Hpay
  icases Hp with ⟨Hslot, Hperm⟩
  iapply (wp_add P c s hs _ rfl k2) $$ [Hadd Hslot]
  · isplitl [Hadd]; · iexact Hadd
    iexact Hslot
  iintro ⟨Hout, Hslot⟩
  iapply Hk
  isplitl [Htoks]; · iexact Htoks
  isplitl [Hz HzS HzV]
  · unfold zer
    isplitl [HzS HzV]
    · isplitl [HzS]; · iexact HzS
      iexact HzV
    iexact Hz
  isplitl [HO]; · iexists _; iexact HO
  isplitl [Hout]; · iexact Hout
  isplitl [Hrest]; · iexact Hrest
  isplitl [Hperm]; · iexact Hperm
  isplitl [Hslot Hslots]
  · isplitl [Hslot]; · iexists _; iexact Hslot
    iexact Hslots
  iexact Hdsts

theorem AG_peel (g : ℕ) (hg : g < 31) : AG P c g =
    iprop((tok c (31 + g) ∗ bigSep (Finset.Ico (31 + g + 1) 62) (tok (F := F) c)) ∗ bigSep (Finset.range (31 + g)) (zer (F := F) c) ∗ ow c (31 + g)
      ∗ outPts c ((c.val + 65 - g) % 32) (ringSum P 31)
      ∗ bigSep (Finset.range g) (fun j => outPts c ((c.val + 65 - j) % 32) (ringSum P 31))
      ∗ (anyOut (nxt c) ((c.val + 65 - g) % 32) ∗ perms ((c.val + 65 - g) % 32) (Finset.Ico (g + 1) 31))) := by
  have edv : dv ((c.val + 65 - g) % 32 + g) = nxt c := dv_at (by rw [nxt_val]; have := dev_lt c; omega)
  unfold AG perms
  rw [sep_head (a := 31 + g) (b := 62) (by omega), sep_head (a := g) (b := 31) hg, edv]

theorem AG_succ (g : ℕ) (hg : g < 31) : AG P c (g + 1) =
    iprop(bigSep (Finset.Ico (31 + g + 1) 62) (tok (F := F) c) ∗ (zer c (31 + g) ∗ bigSep (Finset.range (31 + g)) (zer (F := F) c)) ∗ ow c (31 + g + 1)
      ∗ outPts c ((c.val + 64 - g) % 32) (ringSum P 31)
      ∗ (outPts c ((c.val + 65 - g) % 32) (ringSum P 31) ∗ bigSep (Finset.range g) (fun j => outPts c ((c.val + 65 - j) % 32) (ringSum P 31)))
      ∗ perms ((c.val + 64 - g) % 32) (Finset.Ico (g + 1) 31)) := by
  unfold AG
  rw [← Nat.add_assoc 31 g 1, sep_last (31 + g) (zer c), sep_last g (fun j => outPts c ((c.val + 65 - j) % 32) (ringSum P 31)),
    show c.val + 65 - (g + 1) = c.val + 64 - g by omega]

/-- One step of the all-gather. -/
theorem ag_step (n : Dev nD) (hn : n = nxt c) (g : ℕ) (hg : g < 31) (o : Fin 2 → ℕ)
    (i : ∀ a, o a + S16x512.size a ≤ S512x512.size a) (e : o = ![16 * ((c.val + 65 - g) % 32), 0])
    {Q : PUnit → sProp 𝕄} {p : PK F} :
    iprop(ctx P K c ∗ AG P c g ∗ (AG P c (g + 1) -∗ WP c p Q))
      ⊢ WP c (agK oM cc0_scratch3 cc0_scratch4 n o i g hg p) Q := by
  subst e
  have k1 : (c.val + 65 - g) % 32 < 32 := Nat.mod_lt _ (by decide)
  have h62 : 31 + g < 62 := by omega
  have hns : ¬ 31 + g < 31 := by omega
  unfold agK
  rw [AG_peel P c g hg, AG_succ P c g hg]
  unfold ctx tok ow
  iintro ⟨⟨#Hrec, #HrS, #HrV⟩, ⟨⟨⟨HtS, HtV, HatS, HatV, HcV⟩, Htoks⟩, Hz, ⟨%W, HO⟩, Hsrc, Hdone, ⟨Hdst, Hperm⟩⟩, Hk⟩
  ihave #HIsnd := (recs_inv P K (mem_cells_send c h62)) $$ Hrec
  ihave #HIrcv := (recs_inv P K (mem_cells_recv c h62)) $$ Hrec
  ihave #HIrcvN := (recs_inv P K (mem_cells_recv (nxt c) h62)) $$ Hrec
  unfold anyOut
  icases Hdst with ⟨%fn, Hdst⟩
  iapply (wp_send_ag P K c n hn g hg _ rfl k1 _ _ (semAt3 g hg) (semAt4 g hg) fn W) $$ [Hsrc Hdst Hperm HO HtS HtV]
  · isplitr; · iexact HIsnd
    isplitr; · iexact HIrcvN
    isplitl [Hsrc]; · iexact Hsrc
    isplitl [Hdst Hperm]
    · isplitl [Hdst]; · iexact Hdst
      iexact Hperm
    isplitl [HO]; · iexact HO
    isplitl [HtS]; · iexact HtS
    isplitr; · iapply (reached_send c h62) $$ HrS
    isplitl [HtV]; · iexact HtV
    iapply (reached_recv (nxt c) h62) $$ HrV
  iintro ⟨HcS, HO⟩
  rw [semAt3 g hg, semAt4 g hg]
  iapply (wp_wait_cell P K c (sendQ (31 + g)) (two_le_send h62) (Or c (31 + g + 1)) W) $$ [HcS HO HatS]
  · isplitr; · iexact HIsnd
    isplitl [HcS]; · iexact HcS
    isplitl [HO]; · iexact HO
    isplitr; · iapply (recs_lev P K (mayWait_send c h62 (31 + g + 1))) $$ Hrec
    iexact HatS
  iintro ⟨HO, HzS, Hpay⟩
  ihave Hback := (Entails.of_eq ((rest_send P c (31 + g) h62).trans (by unfold sendPay; rw [if_neg hns, Nat.add_sub_cancel_left]))) $$ Hpay
  iapply (wp_wait_cell P K c (recvQ (31 + g)) (two_le_recv h62) (Or c (31 + g + 1)) (insert (.dma (sendQ (31 + g)), ()) W)) $$ [HcV HO HatV]
  · isplitr; · iexact HIrcv
    isplitl [HcV]; · iexact HcV
    isplitl [HO]; · iexact HO
    isplitr; · iapply (recs_lev P K (mayWait_recv c h62)) $$ Hrec
    iexact HatV
  iintro ⟨HO, HzV, Hpay⟩
  ihave Hp := (Entails.of_eq ((rest_recv P c (31 + g) h62).trans (by unfold recvPay; rw [if_neg hns, Nat.add_sub_cancel_left]))) $$ Hpay
  icases Hp with ⟨Hnew, Hperm⟩
  iapply Hk
  isplitl [Htoks]; · iexact Htoks
  isplitl [Hz HzS HzV]
  · unfold zer
    isplitl [HzS HzV]
    · isplitl [HzS]; · iexact HzS
      iexact HzV
    iexact Hz
  isplitl [HO]; · iexists _; iexact HO
  isplitl [Hnew]; · iexact Hnew
  isplitl [Hback Hdone]
  · isplitl [Hback]; · iexact Hback
    iexact Hdone
  iexact Hperm

/-! ## The phases -/

theorem rs_all {Q : PUnit → sProp 𝕄} {p : PK F} : ∀ (n s : ℕ) (hs : s + n ≤ 31),
    iprop(ctx P K c ∗ RS P c s ∗ (RS P c (s + n) -∗ WP c p Q)) ⊢ WP c (rsL oM cM cc0_scratch1 cc0_scratch2 c p n s hs) Q
  | 0, s, hs => by
    unfold rsL
    iintro ⟨-, H, Hk⟩
    iapply Hk; iexact H
  | n + 1, s, hs => by
    unfold rsL
    iintro ⟨#Hc, H, Hk⟩
    have h31 : s < 31 := by omega
    have hn : s + 1 + n ≤ 31 := by omega
    iapply (rs_step P K c (rightOf c) (rightOf_eq c) s h31 _ _ _ _ (k0_off1_eq c ⟨s, h31⟩) (k0_off2_eq c ⟨s, h31⟩))
    isplitr; · iexact Hc
    isplitl [H]; · iexact H
    iintro H
    iapply (rs_all n (s + 1) hn)
    isplitr; · iexact Hc
    isplitl [H]; · iexact H
    rw [show s + 1 + n = s + (n + 1) by omega]
    iexact Hk

theorem ag_all {Q : PUnit → sProp 𝕄} {p : PK F} : ∀ (n s : ℕ) (hs : s + n ≤ 31),
    iprop(ctx P K c ∗ AG P c s ∗ (AG P c (s + n) -∗ WP c p Q)) ⊢ WP c (agL oM cc0_scratch3 cc0_scratch4 c p n s hs) Q
  | 0, s, hs => by
    unfold agL
    iintro ⟨-, H, Hk⟩
    iapply Hk; iexact H
  | n + 1, s, hs => by
    unfold agL
    iintro ⟨#Hc, H, Hk⟩
    have h31 : s < 31 := by omega
    have hn : s + 1 + n ≤ 31 := by omega
    iapply (ag_step P K c (rightOf c) (rightOf_eq c) s h31 _ _ (k0_off3_eq c ⟨s, h31⟩))
    isplitr; · iexact Hc
    isplitl [H]; · iexact H
    iintro H
    iapply (ag_all n (s + 1) hn)
    isplitr; · iexact Hc
    isplitl [H]; · iexact H
    rw [show s + 1 + n = s + (n + 1) by omega]
    iexact Hk

end Phases

end RingK
-- ==== Proof.Body.lean ====
/- The whole body on a device: the handshake, the copy of the operand, the two phases. -/
module

public import proofs.«01_k».proof.Proof.Phases

@[expose] public section

noncomputable section

namespace RingK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Body

variable (P : Dev nD → B512 F) (K : GSem nD τ sig → ℕ) (c : Dev nD)

/-- A whole buffer of a device, at known contents. -/
abbrev pPts (f : B512 F) : sProp 𝕄 := ((c : Thread nD τ).loc cc0_stg0_0) ↦{fullShare} f
abbrev oPts (f : B512 F) : sProp 𝕄 := ((c : Thread nD τ).loc cc0_stg1_0) ↦{fullShare} f
abbrev cPts (f : BC F) : sProp 𝕄 := ((c : Thread nD τ).loc cc0_scratch0) ↦{fullShare} f

/-! ## The buffers by blocks -/

theorem oPts_blocks' (f : B512 F) :
    (oPts c f : sProp 𝕄) = bigSep (Finset.range 32) fun j => outPts c ((c.val + 64 - j) % 32) f :=
  (congrArg (fun S : Finset S512x512.Idx => (((c : Thread nD τ).loc cc0_stg1_0 ↦[S]{fullShare} f) : sProp 𝕄)) (rowSet_cover' c.val)).trans
    (pointsTo_biUnion (ℓ := (c : Thread nD τ).loc cc0_stg1_0) (Finset.range 32) (fun j => rowSet ((c.val + 64 - j) % 32)) (rowSet_disj' c.val))
theorem oPts_blocks (f : B512 F) :
    (oPts c f : sProp 𝕄) = bigSep (Finset.range 32) fun j => outPts c ((c.val + 65 - j) % 32) f :=
  (congrArg (fun S : Finset S512x512.Idx => (((c : Thread nD τ).loc cc0_stg1_0 ↦[S]{fullShare} f) : sProp 𝕄)) (rowSet_cover c.val)).trans
    (pointsTo_biUnion (ℓ := (c : Thread nD τ).loc cc0_stg1_0) (Finset.range 32) (fun j => rowSet ((c.val + 65 - j) % 32)) (rowSet_disj c.val))
theorem cPts_blocks (f : BC F) : (cPts c f : sProp 𝕄) = bigSep (Finset.range 31) fun h => slotPts c h f :=
  (congrArg (fun S : Finset S31x16x512.Idx => (((c : Thread nD τ).loc cc0_scratch0 ↦[S]{fullShare} f) : sProp 𝕄)) slotSet_cover).trans
    (pointsTo_biUnion (ℓ := (c : Thread nD τ).loc cc0_scratch0) (Finset.range 31) slotSet slotSet_disj)
theorem slot_any (h : ℕ) (f : BC F) : (slotPts c h f : sProp 𝕄) ⊢ anySlot c h := by
  unfold anySlot; iintro H; iexists f; iexact H
theorem cPts_split (f : BC F) : (cPts c f : sProp 𝕄) ⊢ bigSep (Finset.range 31) fun h => anySlot (F := F) c h := by
  rw [cPts_blocks]
  exact BI.bigSep_mono fun h _ => slot_any c h f
theorem cPts_join' [Nonempty (BC F)] : (bigSep (Finset.range 31) fun h => anySlot (F := F) c h) ⊢ iprop(∃ f : BC F, cPts c f) := by
  have e : (bigSep (Finset.range 31) fun h => anySlot (F := F) c h) ⊢ iprop(∃ fs : ℕ → BC F, bigSep (Finset.range 31) fun h => slotPts c h (fs h)) :=
    BI.bigSep_exists_pi (Finset.range 31) (fun (h : ℕ) (f : BC F) => (slotPts c h f : sProp 𝕄))
  have e2 : ∀ fs : ℕ → BC F, (bigSep (Finset.range 31) fun h => (slotPts c h (fs h) : sProp 𝕄))
      ⊢ iprop(∃ g : BC F, ⌜∀ t ∈ Finset.range 31, ∀ i ∈ slotSet t, g i = fs t i⌝ ∗ ((c : Thread nD τ).loc cc0_scratch0 ↦[(Finset.range 31).biUnion slotSet]{fullShare} g)) :=
    fun fs => pointsTo_biUnion_join (ℓ := (c : Thread nD τ).loc cc0_scratch0) (Finset.range 31) slotSet fs (fs 0) slotSet_disj
  have e3 : ∀ g : BC F, (((c : Thread nD τ).loc cc0_scratch0 ↦[(Finset.range 31).biUnion slotSet]{fullShare} g) : sProp 𝕄) ⊢ cPts c g :=
    fun g => Entails.of_eq (congrArg (fun S : Finset S31x16x512.Idx => (((c : Thread nD τ).loc cc0_scratch0 ↦[S]{fullShare} g) : sProp 𝕄)) slotSet_cover.symm)
  iintro H
  ihave H := e $$ H
  icases H with ⟨%fs, H⟩
  ihave H := (e2 fs) $$ H
  icases H with ⟨%g, -, H⟩
  iexists g
  iapply (e3 g) $$ H
theorem cPts_join : (bigSep (Finset.range 31) fun h => anySlot (F := F) c h) ⊢ iprop(∃ f : BC F, cPts c f) := by
  by_cases hn : Nonempty (BC F)
  · exact cPts_join' c
  · rw [sep_last 30]
    iintro ⟨H, -⟩
    unfold anySlot
    icases H with ⟨%f, H⟩
    exact absurd ⟨f⟩ hn

/-- The state before the first step, from the operand's copy and the neighbour's scratch. -/
theorem RS_start : iprop(bigSep (Finset.Ico 0 62) (tok (F := F) c) ∗ ow c 0 ∗ oPts c (P c)
    ∗ bigSep (Finset.Ico 0 31) (fun j => anySlot (F := F) (nxt c) j)) ⊢ RS P c 0 := by
  have e0 : (outPts c ((c.val + 64 - 0) % 32) (P c) : sProp 𝕄) = outPts c ((c.val + 64 - 0) % 32) (ringSum P 0) :=
    outPts_congr c _ fun i hi => by
      rw [mem_rowSet] at hi
      show P c i = P (dv ((i 0).val / 16)) i
      rw [show dv ((i 0).val / 16) = c from dv_at (by have := dev_lt c; omega)]
  unfold RS perms
  rw [oPts_blocks', Finset.range_eq_Ico, sep_head (a := 0) (b := 32) (by decide), e0]
  iintro ⟨Ht, HO, ⟨H0, Hr⟩, Hs⟩
  isplitl [Ht]; · iexact Ht
  isplitr; · rw [Finset.range_zero, BI.bigSep_empty]; iempintro
  isplitl [HO]; · iexact HO
  isplitl [H0]; · iexact H0
  isplitl [Hr]; · iexact Hr
  isplitr; · rw [Finset.range_zero, BI.bigSep_empty]; iempintro
  isplitr; · rw [Finset.range_zero, BI.bigSep_empty]; iempintro
  iexact Hs

/-- Between the phases: the last step's block is the first one to be gathered. -/
theorem RS_AG : RS P c (0 + 31) ⊢ iprop(AG P c 0 ∗ bigSep (Finset.range 31) (fun j => anySlot (F := F) c j)) := by
  unfold RS AG perms
  rw [Nat.zero_add, Nat.add_zero, show (c.val + 65 - 0) % 32 = (c.val + 64 - 31) % 32 by omega, ← Finset.range_eq_Ico]
  iintro ⟨Ht, Hz, HO, Hb, -, Hp, Hs, -⟩
  isplitr [Hs]
  · isplitl [Ht]; · iexact Ht
    isplitl [Hz]; · iexact Hz
    isplitl [HO]; · iexact HO
    isplitl [Hb]; · iexact Hb
    isplitr; · rw [Finset.range_zero, BI.bigSep_empty]; iempintro
    iexact Hp
  iexact Hs

/-- After the last step: the whole output, nothing owed, every counter at zero. -/
theorem AG_end : AG P c (0 + 31) ⊢ iprop(bigSep (Finset.range 62) (zer (F := F) c) ∗ (∃ W : Waits sig Unit, owes (c : Thread nD τ) 0 W)
    ∗ oPts c (ringSum P 31)) := by
  unfold AG ow
  rw [Nat.zero_add, show 31 + 31 = 62 from rfl, Or_last, oPts_blocks, sep_last 31 (fun j => outPts c ((c.val + 65 - j) % 32) (ringSum P 31))]
  iintro ⟨-, Hz, HO, Hb, Hr, -⟩
  isplitl [Hz]; · iexact Hz
  isplitl [HO]; · iexact HO
  isplitl [Hb]; · iexact Hb
  iexact Hr

/-! ## The body -/

/-- What the body starts from. -/
def bodyPre (W : Waits sig Unit) : sProp 𝕄 :=
  iprop(recs P K ∗ bigSep (Finset.range 62) (fun t => reached ER (sendCell c t) 0) ∗ bigSep (Finset.range 62) (fun t => reached ER (recvCell c t) 0)
    ∗ reached ER (barCell (nxt c)) 0 ∗ reached ER (barCell (prv c)) 0
    ∗ bigSep (Finset.Ico 0 62) (tok (F := F) c)
    ∗ atPos ER (barCell c) 0 ∅ 0 ∗ cred (tallyAt (barCell c) () 2)
    ∗ dutyTok ER (barCell (nxt c)) 0 false ∗ dutyTok ER (barCell (prv c)) 0 true
    ∗ owes (c : Thread nD τ) (O₀ c) W
    ∗ pPts c (P c) ∗ (∃ f, oPts (F := F) c f) ∗ ∃ f, cPts (F := F) c f)

/-- What it ends with. -/
def bodyPost : sProp 𝕄 :=
  iprop(bigSep (Finset.range 62) (zer (F := F) c) ∗ semVal (barCell c) 0 ∗ (∃ W : Waits sig Unit, owes (c : Thread nD τ) 0 W)
    ∗ pPts c (P c) ∗ oPts c (ringSum P 31) ∗ ∃ f, cPts (F := F) c f)

theorem hz2 : (![0, 0] : Fin 2 → ℕ) = fun _ => 0 := funext fun a => by fin_cases a <;> rfl
abbrev wRect : Rect S512x512 := Rect.unit (s := S512x512) ![0, 0] S512x512.size inb_S512x512_S512x512_0_0
theorem whole_eq (v : B512 F) : whole v = v := shapeCast_self _ _

theorem op_then {E : Type → Type} {X α β : Type} (e : E X) (k : X → Prog E α) (f : α → Prog E β) :
    (Prog.op e k).bind f = Prog.op e fun x => (k x).bind f := rfl
theorem ret_then {E : Type → Type} {α β : Type} (a : α) (f : α → Prog E β) : (Prog.ret a : Prog E α).bind f = f a := rfl

theorem body_run {Q : PUnit → sProp 𝕄} (W : Waits sig Unit) :
    iprop(bodyPre P K c W ∗ (bodyPost P c -∗ Q ⟨⟩))
      ⊢ WP c (flat pM oM cM cc0_scratch1 cc0_scratch2 cc0_scratch3 cc0_scratch4) Q := by
  have h31 : 0 + 31 ≤ 31 := le_rfl
  unfold flat
  simp only [semSignalWord, semWaitWord, Prog.lift, op_then, ret_then, wp_deviceId]
  simp only [leftOf_eq c, rightOf_eq c]
  unfold bodyPre
  iintro ⟨⟨#Hrec, #HrS, #HrV, #HrN, #HrP, Htoks, HatB, HcB, HtN, HtP, HO, Hp, ⟨%fo, Ho⟩, ⟨%fc, Hc⟩⟩, Hk⟩
  ihave #HIbar := (recs_inv P K (mem_cells_bar c)) $$ Hrec
  ihave #HIbarN := (recs_inv P K (mem_cells_bar (nxt c))) $$ Hrec
  ihave #HIbarP := (recs_inv P K (mem_cells_bar (prv c))) $$ Hrec
  unfold O₀
  iapply (Rounds.wp_signal 𝒱₀ ER (ringRd P) (c : Thread nD τ) none (dst := (prv c : Thread nD τ)) (κ := K (barCell (prv c)))
      (d := true) (by rw [duties_bar]; exact Finset.mem_univ _) ((amount_bar P (prv c) true).trans (by decide)) () (O₁ c) rfl)
    $$ [HO HtP Hc]
  · isplitr; · iexact HIbarP
    isplitl [HO]; · iexact HO
    isplitl [HtP]; · iexact HtP
    isplitl [Hc]
    · rw [payload_bar_true]; unfold barPay; rw [nxt_prv, ← Finset.range_eq_Ico]
      isplitl [Hc]; · iapply (cPts_split c fc) $$ Hc
      iexact HrV
    · iexact HrP
  iintro HO
  unfold O₁
  iapply (Rounds.wp_signal 𝒱₀ ER (ringRd P) (c : Thread nD τ) none (dst := (nxt c : Thread nD τ)) (κ := K (barCell (nxt c)))
      (d := false) (by rw [duties_bar]; exact Finset.mem_univ _) ((amount_bar P (nxt c) false).trans (by decide)) () (Or c 0) rfl)
    $$ [HO HtN]
  · isplitr; · iexact HIbarN
    isplitl [HO]; · iexact HO
    isplitl [HtN]; · iexact HtN
    isplitr; · rw [payload_bar_false]; iempintro
    iexact HrN
  iintro HO
  iapply (Rounds.wp_wait_rest_token 𝒱₀ ER (ringRd P) (c : Thread nD τ) none (κ := K (barCell c))
      (wpE_semWait_eq 𝒱₀ (c : Thread nD τ) none Set.univ) (Set.mem_univ _) () (O := Or c 0) (W := W) (R := 0) (m := 0) (T := ∅)
      (by rw [expect_bar]; decide)) $$ [HcB HO HatB]
  · isplitr; · iexact HIbar
    isplitl [HcB]; · iexact HcB
    isplitl [HO]; · iexact HO
    isplitr; · iapply (recs_lev P K (mayWait_bar c)) $$ Hrec
    iexact HatB
  iintro ⟨HO, HatB, -, Hpay⟩
  ihave Hb := (Entails.of_eq (rest_bar P c)) $$ Hpay
  unfold barPay
  icases Hb with ⟨-, Hslots, #HrVN⟩
  imod (Rounds.cell_close ER (ringRd P) (Set.mem_univ (K (barCell c))) (fun h => h) (R := 0 + 1) (duties_later P _)) $$ [HatB] with HzB
  · isplitr; · iexact HIbar
    iexact HatB
  iapply (wp_load 𝒱₀ (c : Thread nD τ) none Set.univ (m := pM) (Finset.subset_univ _)) $$ Hp; iintro Hp
  iapply (wp_load 𝒱₀ (c : Thread nD τ) none Set.univ (m := oM) (Finset.subset_univ _)) $$ Ho; iintro Ho
  iapply (wp_store 𝒱₀ (c : Thread nD τ) none Set.univ (m := oM) (r := wRect) (Mk := Finset.univ) (Finset.subset_univ _)) $$ Ho; iintro Ho
  have ho : (oM.access wRect : View sig .tc _ _ _).write (Elt F) fo
      (whole (pM.view.readAt (Elt F) wRect.toLoadRect (P c))) Finset.univ = P c := by
    have hr : pM.view.readAt (Elt F) wRect.toLoadRect (P c) = P c := Memref.readAt_unit_zero (Elt F) cc0_stg0_0 hz2 _ (P c)
    rw [hr, whole_eq]
    exact Memref.write_access_unit_zero_univ (Elt F) cc0_stg1_0 hz2 _ fo (P c)
  rw [ho]
  ihave Hrs := (RS_start P c) $$ [Htoks HO Ho Hslots]
  · isplitl [Htoks]; · iexact Htoks
    isplitl [HO]; · unfold ow; iexists _; iexact HO
    isplitl [Ho]; · iexact Ho
    iexact Hslots
  iapply (rs_all P K c 31 0 h31)
  isplitr
  · unfold ctx
    isplitr; · iexact Hrec
    isplitr; · iexact HrS
    iexact HrVN
  isplitl [Hrs]; · iexact Hrs
  iintro Hrs
  ihave Hag := (RS_AG P c) $$ Hrs
  icases Hag with ⟨Hag, Hslots⟩
  iapply (ag_all P K c 31 0 h31)
  isplitr
  · unfold ctx
    isplitr; · iexact Hrec
    isplitr; · iexact HrS
    iexact HrVN
  isplitl [Hag]; · iexact Hag
  iintro Hag
  ihave He := (AG_end P c) $$ Hag
  icases He with ⟨Hz, HO, Ho⟩
  unfold WP
  rw [wp_ret]; imodintro
  iapply Hk
  unfold bodyPost
  isplitl [Hz]; · iexact Hz
  isplitl [HzB]; · iexact HzB
  isplitl [HO]; · iexact HO
  isplitl [Hp]; · iexact Hp
  isplitl [Ho]; · iexact Ho
  iapply (cPts_join c) $$ Hslots

end Body

end RingK
-- ==== Proof.Region.lean ====
/- The kernel region: its proof data, the body's obligation, and the region's record, entered with the
   body's own semaphores' cells still closed and everything dealt for them at the launch. -/
module

public import proofs.«01_k».proof.Proof.Body
public import proofs.«01_k».proof.Proof.Gen.KernelIdeal.Regions
public import proofs.«01_k».proof.Proof.Gen.KernelIdeal.Points
public import Idealize.ShloMosaic.Lib.Pipeline.RegionTalk

@[expose] public section

noncomputable section

namespace RingK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The body's own semaphores -/

abbrev OwnIx : Type := Bool × Fin 62
def osem (k : OwnIx) : SemLoc sig := if k.1 then .dma (recvQ k.2.val) else .dma (sendQ k.2.val)

theorem send_scoped : ∀ t : Fin 62, (SemLoc.dma (sendQ t.val) : SemLoc sig).isScoped .tc = true := by decide +kernel
theorem recv_scoped : ∀ t : Fin 62, (SemLoc.dma (recvQ t.val) : SemLoc sig).isScoped .tc = true := by decide +kernel
theorem stage_lt : ∀ (w : Fin 2) (s : Fin (spec0 w).nbuf), ((spec0 w).sem s).val < 2 := by decide +kernel

theorem sendQ_inj {t t' : ℕ} (ht : t < 62) (ht' : t' < 62) (h : sendQ t = sendQ t') : t = t' := by
  rw [← stepOf_send ht, h, stepOf_send ht']
theorem recvQ_inj {t t' : ℕ} (ht : t < 62) (ht' : t' < 62) (h : recvQ t = recvQ t') : t = t' := by
  rw [← stepOf_recv ht, h, stepOf_recv ht']
theorem send_ne_recv {t t' : ℕ} (ht : t < 62) (ht' : t' < 62) (h : sendQ t = recvQ t') : False := by
  have := isRecv_send ht; rw [h, isRecv_recv ht'] at this; cases this
theorem dma_inj {q q' : DmaSem sig} (h : (SemLoc.dma q : SemLoc sig) = .dma q') : q = q' := by injection h

theorem ownFacts : Pipeline.OwnSemFacts spec0 osem where
  isScoped := by
    rintro ⟨b, t⟩; cases b
    · exact send_scoped t
    · exact recv_scoped t
  inj := by
    rintro ⟨b, t⟩ ⟨b', t'⟩ h
    cases b <;> cases b'
    · exact Prod.ext rfl (Fin.ext (sendQ_inj t.isLt t'.isLt (dma_inj h)))
    · exact (send_ne_recv t.isLt t'.isLt (dma_inj h)).elim
    · exact (send_ne_recv t'.isLt t.isLt (dma_inj h).symm).elim
    · exact Prod.ext rfl (Fin.ext (recvQ_inj t.isLt t'.isLt (dma_inj h)))
  disj := by
    rintro ⟨b, t⟩ w s h
    have hs := stage_lt w s
    cases b
    · have e := dma_inj h; have := two_le_send t.isLt; rw [e] at this; omega
    · have e := dma_inj h; have := two_le_recv t.isLt; rw [e] at this; omega

theorem sep_range (n : ℕ) (Φ : ℕ → sProp 𝕄) : bigSep (Finset.range n) Φ = bigSep Finset.univ fun i : Fin n => Φ i.val := by
  rw [show Finset.range n = Finset.univ.image (fun i : Fin n => i.val) from by
      ext i; rw [Finset.mem_range, Finset.mem_image]
      exact ⟨fun h => ⟨⟨i, h⟩, Finset.mem_univ _, rfl⟩, fun ⟨j, _, h⟩ => h ▸ j.isLt⟩,
    bigSep_image_of_injOn (fun a _ b _ h => Fin.ext h)]
theorem ownSems_eq (c : Dev nD) : (Pipeline.ownSems0 osem c : sProp 𝕄)
    = iprop(bigSep (Finset.range 62) (fun t => semVal (recvCell c t) 0) ∗ bigSep (Finset.range 62) fun t => semVal (sendCell c t) 0) := by
  unfold Pipeline.ownSems0
  rw [bigSep_univ_prod, sep_range, sep_range, show (Finset.univ : Finset Bool) = {true, false} from rfl, bigSep_insert (by decide), bigSep_singleton]
  rfl

/-! ## What a device brings to the region, before and after its cells open -/

section Region

variable (W : Dev nD → Valuation τ sig (Elt F))

/-- The operand on each device. -/
abbrev opnd (c : Dev nD) : B512 F := W c (Proc.devRef .tc main_v52)
/-- The device's buffers after the region. -/
def Wend (c : Dev nD) : Valuation τ sig (Elt F) := Function.update (W c) (Proc.devRef .tc main_v53) (ringSum (opnd W) 31)

variable (K : GSem nD τ sig → ℕ) (c : Dev nD)

/-- What it brings whether its cells are open or not. -/
def carried : sProp 𝕄 :=
  iprop(reached ER (barCell (nxt c)) 0 ∗ reached ER (barCell (prv c)) 0
    ∗ atPos ER (barCell c) 0 ∅ 0 ∗ cred (tallyAt (barCell c) () 2)
    ∗ dutyTok ER (barCell (nxt c)) 0 false ∗ dutyTok ER (barCell (prv c)) 0 true)
/-- A step's tokens and credit. -/
def pay (t : ℕ) : sProp 𝕄 :=
  iprop(dutyTok ER (sendCell c t) 0 false ∗ dutyTok ER (recvCell (nxt c) t) 0 false ∗ cred (tallyAt (recvCell c t) () N))
def closed (t : ℕ) : sProp 𝕄 := iprop(openTok ER (sendCell c t) ∗ openTok ER (recvCell c t))
def opened (t : ℕ) : sProp 𝕄 :=
  iprop((atPos ER (sendCell c t) 0 ∅ 0 ∗ reached ER (sendCell c t) 0) ∗ (atPos ER (recvCell c t) 0 ∅ 0 ∗ reached ER (recvCell c t) 0))

def dealt : sProp 𝕄 :=
  iprop(recs (opnd W) K ∗ carried c ∗ bigSep (Finset.range 62) (pay (F := F) c) ∗ bigSep (Finset.range 62) (closed (F := F) c))
def start : sProp 𝕄 :=
  iprop(recs (opnd W) K ∗ carried c ∗ bigSep (Finset.range 62) (pay (F := F) c) ∗ bigSep (Finset.range 62) (opened (F := F) c))

theorem open_step {t : ℕ} (ht : t < 62) :
    iprop(recs (opnd W) K ∗ (closed (F := F) c t ∗ (semVal (recvCell c t) 0 ∗ semVal (sendCell c t) 0)))
      ⊢ (|={Set.univ}=> opened (F := F) c t : sProp 𝕄) := by
  unfold closed opened
  iintro ⟨#Hrec, ⟨HoS, HoV⟩, HvV, HvS⟩
  ihave #HIS := (recs_inv (opnd W) K (mem_cells_send c ht)) $$ Hrec
  ihave #HIV := (recs_inv (opnd W) K (mem_cells_recv c ht)) $$ Hrec
  imod (Rounds.cell_open ER (ringRd (opnd W)) (g := sendCell c t) (Set.mem_univ (K (sendCell c t)))) $$ [HoS HvS] with HS
  · isplitr; · iexact HIS
    isplitl [HoS] <;> iassumption
  imod (Rounds.cell_open ER (ringRd (opnd W)) (g := recvCell c t) (Set.mem_univ (K (recvCell c t)))) $$ [HoV HvV] with HV
  · isplitr; · iexact HIV
    isplitl [HoV] <;> iassumption
  imodintro
  isplitl [HS] <;> iassumption

theorem open_all : iprop(dealt W K c ∗ Pipeline.ownSems0 osem c) ⊢ (|={Set.univ}=> start W K c : sProp 𝕄) := by
  have h1 : iprop(recs (opnd W) K ∗ bigSep (Finset.range 62) (fun t => iprop(closed (F := F) c t ∗ (semVal (recvCell c t) 0 ∗ semVal (sendCell c t) 0))))
      ⊢ (|={Set.univ}=> bigSep (Finset.range 62) (opened (F := F) c) : sProp 𝕄) :=
    (bigSep_with_persistent fun t ht => open_step W K c (Finset.mem_range.mp ht)).trans (bigSep_fupd _ _)
  rw [bigSep_sep', bigSep_sep'] at h1
  rw [ownSems_eq]
  unfold dealt start
  iintro ⟨⟨#Hrec, Hc, Hp, Ho⟩, HvV, HvS⟩
  imod h1 $$ [Ho HvV HvS] with H
  · isplitr; · iexact Hrec
    isplitl [Ho]; · iexact Ho
    isplitl [HvV] <;> iassumption
  imodintro
  isplitr; · iexact Hrec
  isplitl [Hc]; · iexact Hc
  isplitl [Hp] <;> iassumption

/-- The step tokens as the body takes them. -/
theorem toks_of : iprop(bigSep (Finset.range 62) (pay (F := F) c) ∗ bigSep (Finset.range 62) (opened (F := F) c))
    ⊢ iprop(bigSep (Finset.range 62) (fun t => reached ER (sendCell c t) 0) ∗ bigSep (Finset.range 62) (fun t => reached ER (recvCell c t) 0)
      ∗ bigSep (Finset.Ico 0 62) (tok (F := F) c) : sProp 𝕄) := by
  have h : ∀ t, iprop(pay (F := F) c t ∗ opened (F := F) c t)
      ⊢ (iprop(reached ER (sendCell c t) 0 ∗ reached ER (recvCell c t) 0 ∗ tok (F := F) c t) : sProp 𝕄) := fun t => by
    unfold pay opened tok
    iintro ⟨⟨H1, H2, H3⟩, ⟨H4, H5⟩, H6, H7⟩
    isplitl [H5]; · iexact H5
    isplitl [H7]; · iexact H7
    isplitl [H1]; · iexact H1
    isplitl [H2]; · iexact H2
    isplitl [H4]; · iexact H4
    isplitl [H6] <;> iassumption
  rw [← Finset.range_eq_Ico, ← bigSep_sep', ← bigSep_sep', ← bigSep_sep']
  exact bigSep_mono fun t _ => h t

end Region

end RingK
-- ==== Proof.Deal.lean ====
/- What the launch deals: the cells and the duty tokens as families over the devices and the steps, and
   the launch credit. -/
module

public import proofs.«01_k».proof.Proof.Region

@[expose] public section

noncomputable section

namespace RingK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The families of cells and tokens -/

theorem bar_inj : Set.InjOn (fun c : Dev nD => barCell c) (Finset.univ : Finset (Dev nD)) :=
  fun _ _ _ _ h => congrArg (fun g : GSem nD τ sig => g.1.1) h
abbrev steps : Finset (Dev nD × ℕ) := Finset.univ ×ˢ Finset.range 62
theorem lt_of_steps {p : Dev nD × ℕ} (h : p ∈ (steps : Set (Dev nD × ℕ))) : p.2 < 62 :=
  Finset.mem_range.mp (Finset.mem_product.mp (Finset.mem_coe.mp h)).2
theorem send_inj : Set.InjOn (fun p : Dev nD × ℕ => sendCell p.1 p.2) steps := fun a ha b hb h =>
  Prod.ext (congrArg (fun g : GSem nD τ sig => g.1.1) h)
    (sendQ_inj (lt_of_steps ha) (lt_of_steps hb) (dma_inj (congrArg (fun g : GSem nD τ sig => g.2) h)))
theorem recv_inj : Set.InjOn (fun p : Dev nD × ℕ => recvCell p.1 p.2) steps := fun a ha b hb h =>
  Prod.ext (congrArg (fun g : GSem nD τ sig => g.1.1) h)
    (recvQ_inj (lt_of_steps ha) (lt_of_steps hb) (dma_inj (congrArg (fun g : GSem nD τ sig => g.2) h)))

theorem sep_prod (s : Finset (Dev nD)) (Φ : Dev nD × ℕ → sProp 𝕄) :
    bigSep (s ×ˢ Finset.range 62) Φ = bigSep s fun c => bigSep (Finset.range 62) fun t => Φ (c, t) := by
  refine Finset.induction_on s ?_ ?_
  · rw [Finset.empty_product, bigSep_empty, bigSep_empty]
  · intro c s hc ih
    have hd : Disjoint ((Finset.range 62).image (Prod.mk c)) (s ×ˢ Finset.range 62) := by
      rw [Finset.disjoint_left]
      intro x h₁ h₂
      obtain ⟨t, _, rfl⟩ := Finset.mem_image.mp h₁
      exact hc (Finset.mem_product.mp h₂).1
    have hi : insert c s ×ˢ Finset.range 62 = (Finset.range 62).image (Prod.mk c) ∪ s ×ˢ Finset.range 62 := by
      ext x
      rw [Finset.mem_product, Finset.mem_insert, Finset.mem_union, Finset.mem_image, Finset.mem_product]
      constructor
      · rintro ⟨h | h, ht⟩
        · exact Or.inl ⟨x.2, ht, by rw [← h]⟩
        · exact Or.inr ⟨h, ht⟩
      · rintro (⟨t, ht, rfl⟩ | ⟨h, ht⟩)
        · exact ⟨Or.inl rfl, ht⟩
        · exact ⟨Or.inr h, ht⟩
    rw [hi, bigSep_union hd, bigSep_insert hc, ih,
      bigSep_image_of_injOn (fun a _ b _ h => congrArg Prod.snd h)]

theorem sep_bar (Φ : GSem nD τ sig → sProp 𝕄) : bigSep barCells Φ = bigSep Finset.univ fun c : Dev nD => Φ (barCell c) := by
  unfold barCells; exact bigSep_image_of_injOn bar_inj Φ
theorem sep_send (Φ : GSem nD τ sig → sProp 𝕄) :
    bigSep sendCells Φ = bigSep Finset.univ fun c : Dev nD => bigSep (Finset.range 62) fun t => Φ (sendCell c t) := by
  unfold sendCells
  exact (bigSep_image_of_injOn send_inj Φ).trans (sep_prod Finset.univ fun p => Φ (sendCell p.1 p.2))
theorem sep_recv (Φ : GSem nD τ sig → sProp 𝕄) :
    bigSep recvCells Φ = bigSep Finset.univ fun c : Dev nD => bigSep (Finset.range 62) fun t => Φ (recvCell c t) := by
  unfold recvCells
  exact (bigSep_image_of_injOn recv_inj Φ).trans (sep_prod Finset.univ fun p => Φ (recvCell p.1 p.2))

theorem send_disj_recv : Disjoint sendCells recvCells := by
  unfold sendCells recvCells
  rw [Finset.disjoint_left]
  rintro g h₁ h₂
  obtain ⟨p, hp, rfl⟩ := Finset.mem_image.mp h₁
  obtain ⟨q, hq, h⟩ := Finset.mem_image.mp h₂
  exact send_ne_recv (lt_of_steps hp) (lt_of_steps hq) (dma_inj (congrArg (fun g : GSem nD τ sig => g.2) h)).symm
@[irreducible] def xferCells : Finset (GSem nD τ sig) := sendCells ∪ recvCells
theorem bar_disj : Disjoint barCells xferCells := by
  unfold barCells xferCells sendCells recvCells
  rw [Finset.disjoint_left]
  rintro g h₁ h₂
  obtain ⟨c, -, rfl⟩ := Finset.mem_image.mp h₁
  rcases Finset.mem_union.mp h₂ with h₂ | h₂
  · obtain ⟨q, -, h⟩ := Finset.mem_image.mp h₂
    exact dma_ne_bar _ (congrArg (fun g : GSem nD τ sig => g.2) h)
  · obtain ⟨q, -, h⟩ := Finset.mem_image.mp h₂
    exact dma_ne_bar _ (congrArg (fun g : GSem nD τ sig => g.2) h)
theorem cells_eq : barCells ∪ xferCells = cells := by unfold cells xferCells; rfl
theorem sep_xfer (Φ : GSem nD τ sig → sProp 𝕄) : bigSep xferCells Φ
    = iprop((bigSep Finset.univ fun c : Dev nD => bigSep (Finset.range 62) fun t => Φ (sendCell c t))
      ∗ bigSep Finset.univ fun c : Dev nD => bigSep (Finset.range 62) fun t => Φ (recvCell c t)) := by
  unfold xferCells
  rw [bigSep_union send_disj_recv, sep_send, sep_recv]; rfl

/-- The tokens of every duty. -/
abbrev Tok : Type := GSem nD τ sig × ℕ × Bool
@[irreducible] def barToks (b : Bool) : Finset Tok := barCells.image fun g => (g, 0, b)
@[irreducible] def xferToks : Finset Tok := xferCells.image fun g => (g, 0, false)
@[irreducible] def allToks : Finset Tok := barToks false ∪ (barToks true ∪ xferToks)
theorem tok_inj (b : Bool) (s : Finset (GSem nD τ sig)) : Set.InjOn (fun g => ((g, 0, b) : Tok)) s := fun _ _ _ _ h => congrArg (fun x : Tok => x.1) h

theorem barToks_disj : Disjoint (barToks false) (barToks true ∪ xferToks) := by
  unfold barToks xferToks
  rw [Finset.disjoint_left]
  rintro g h₁ h₂
  obtain ⟨c, hc, rfl⟩ := Finset.mem_image.mp h₁
  rcases Finset.mem_union.mp h₂ with h₂ | h₂
  · obtain ⟨q, -, h⟩ := Finset.mem_image.mp h₂
    exact Bool.noConfusion (congrArg (fun x : Tok => x.2.2) h)
  · obtain ⟨q, hq, h⟩ := Finset.mem_image.mp h₂
    have e : q = c := congrArg (fun x : Tok => x.1) h
    exact Finset.disjoint_left.mp bar_disj hc (e ▸ hq)
theorem barToks_disj' : Disjoint (barToks true) xferToks := by
  unfold barToks xferToks
  rw [Finset.disjoint_left]
  rintro g h₁ h₂
  obtain ⟨c, hc, rfl⟩ := Finset.mem_image.mp h₁
  obtain ⟨q, -, h⟩ := Finset.mem_image.mp h₂
  exact Bool.noConfusion (congrArg (fun x : Tok => x.2.2) h)

abbrev dtok (x : Tok) : sProp 𝕄 := dutyTok ER x.1 x.2.1 x.2.2
theorem sep_toks : bigSep allToks (dtok (F := F))
    = iprop((bigSep Finset.univ fun c : Dev nD => dutyTok ER (barCell c) 0 false)
      ∗ (bigSep Finset.univ fun c : Dev nD => dutyTok ER (barCell c) 0 true)
      ∗ (bigSep Finset.univ fun c : Dev nD => bigSep (Finset.range 62) fun t => dutyTok ER (sendCell c t) 0 false)
      ∗ bigSep Finset.univ fun c : Dev nD => bigSep (Finset.range 62) fun t => dutyTok ER (recvCell c t) 0 false) := by
  have hb : ∀ b, bigSep (barToks b) (dtok (F := F)) = bigSep Finset.univ fun c : Dev nD => dutyTok ER (barCell c) 0 b := fun b => by
    unfold barToks
    exact (bigSep_image_of_injOn (tok_inj b _) _).trans (sep_bar fun g => dutyTok ER g 0 b)
  have hx : bigSep xferToks (dtok (F := F)) = bigSep xferCells fun g => dutyTok ER g 0 false := by
    unfold xferToks
    exact bigSep_image_of_injOn (tok_inj false _) _
  unfold allToks
  rw [bigSep_union barToks_disj, bigSep_union barToks_disj', hb, hb, hx, sep_xfer]
  rfl

/-- The ring as a permutation. -/
def ring : Dev nD ≃ Dev nD := ⟨nxt, prv, prv_nxt, nxt_prv⟩
theorem sep_nxt (Φ : Dev nD → sProp 𝕄) : bigSep Finset.univ Φ = bigSep Finset.univ fun c => Φ (nxt c) := bigSep_univ_equiv ring Φ
theorem sep_prv (Φ : Dev nD → sProp 𝕄) : bigSep Finset.univ Φ = bigSep Finset.univ fun c => Φ (prv c) := bigSep_univ_equiv ring.symm Φ

/-! ## The launch credit -/

theorem eq_dev {c d : Dev nD} {s s' : SemLoc sig} (h : (((c : Thread nD τ), s) : GSem nD τ sig) = ((d : Thread nD τ), s')) : c = d :=
  congrArg (fun g : GSem nD τ sig => g.1.1) h

theorem Or_bar (d c : Dev nD) : Or d 0 (barCell c) () = 0 := by
  by_contra hn
  obtain ⟨s, _, _, hg⟩ := Or_pos (Nat.pos_of_ne_zero hn)
  exact dma_ne_bar _ (congrArg (fun g : GSem nD τ sig => g.2) hg).symm

theorem at_bar (c d : Dev nD) : tallyAt (barCell d) () 1 (barCell c) () = if c = d then 1 else 0 := by
  rw [tallyAt_apply]
  by_cases h : c = d
  · subst h; rw [if_pos ⟨rfl, rfl⟩, if_pos rfl]
  · rw [if_neg (fun h' => h (eq_dev h'.1)), if_neg h]

theorem iff_nxt (c d : Dev nD) : (c = nxt d) ↔ d = prv c := ⟨fun h => by rw [h, prv_nxt], fun h => by rw [h, nxt_prv]⟩
theorem iff_prv (c d : Dev nD) : (c = prv d) ↔ d = nxt c := ⟨fun h => by rw [h, nxt_prv], fun h => by rw [h, prv_nxt]⟩

theorem O₀_apply (d : Dev nD) (g : GSem nD τ sig) :
    O₀ d g () = Or d 0 g () + tallyAt (barCell (nxt d)) () 1 g () + tallyAt (barCell (prv d)) () 1 g () := by
  unfold O₀ O₁; rw [Pi.add_apply, Finsupp.add_apply, Pi.add_apply, Finsupp.add_apply]

theorem owed_bar (d c : Dev nD) : O₀ d (barCell c) () = (if d = prv c then 1 else 0) + (if d = nxt c then 1 else 0) := by
  rw [O₀_apply, Or_bar, at_bar, at_bar, Nat.zero_add]
  simp only [iff_nxt c d, iff_prv c d]

theorem at_recv (c d : Dev nD) {t s : ℕ} (ht : t < 62) (hs : s < 62) :
    tallyAt (recvCell d s) () N (recvCell c t) () = if t = s then (if c = d then N else 0) else 0 := by
  rw [tallyAt_apply]
  by_cases h : t = s
  · subst h
    rw [if_pos rfl]
    by_cases h' : c = d
    · subst h'; rw [if_pos ⟨rfl, rfl⟩, if_pos rfl]
    · rw [if_neg (fun e => h' (eq_dev e.1)), if_neg h']
  · rw [if_neg (fun e => h (recvQ_inj ht hs (dma_inj (congrArg (fun g : GSem nD τ sig => g.2) e.1)))), if_neg h]

theorem at_bar_recv (c d : Dev nD) (t : ℕ) : tallyAt (barCell d) () 1 (recvCell c t) () = 0 := by
  rw [tallyAt_apply, if_neg (fun e => dma_ne_bar _ (congrArg (fun g : GSem nD τ sig => g.2) e.1))]

theorem owed_recv (d c : Dev nD) {t : ℕ} (ht : t < 62) : O₀ d (recvCell c t) () = if d = prv c then N else 0 := by
  have h : Or d 0 (recvCell c t) () = if d = prv c then N else 0 := by
    unfold Or
    rw [Finset.sum_apply, Finsupp.finset_sum_apply,
      Finset.sum_congr rfl fun s hs => at_recv c (nxt d) ht (Finset.mem_Ico.mp hs).2, Finset.sum_ite_eq,
      if_pos (Finset.mem_Ico.mpr ⟨Nat.zero_le _, ht⟩)]
    simp only [iff_nxt c d]
  rw [O₀_apply, h, at_bar_recv, at_bar_recv]; rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1,
    if_pos (Finset.mem_univ _), if_pos (Finset.mem_univ _)]
theorem launch_recv (c : Dev nD) {t : ℕ} (ht : t < 62) :
    tallyOn (recvCell c t) (launchCredit (Pipeline.owing O₀) 0 (recvCell c t)) = (tallyAt (recvCell c t) () N : CellTallies nD τ sig Unit) := by
  unfold tallyAt; refine congrArg _ (Finsupp.ext fun u => ?_); cases u
  rw [Pipeline.launchCredit_owing, Finsupp.single_eq_same, Finset.sum_congr rfl fun d _ => owed_recv d c ht,
    Finset.sum_ite_eq' Finset.univ (prv c) fun _ => N, if_pos (Finset.mem_univ _)]

theorem creds (c : Dev nD) :
    (Pipeline.launchCred O₀ c : sProp 𝕄) ⊢ iprop(cred (tallyAt (barCell c) () 2) ∗ bigSep (Finset.range 62) fun t => cred (tallyAt (recvCell c t) () N)) := by
  unfold Pipeline.launchCred
  rw [bigSep_univ_at _ (SemLoc.reg barS), launch_bar]
  refine sep_mono_right ?_
  have hs : (Finset.range 62).image (fun t => (SemLoc.dma (recvQ t) : SemLoc sig)) ⊆ Finset.univ.erase (SemLoc.reg barS) := fun x hx => by
    obtain ⟨t, _, rfl⟩ := Finset.mem_image.mp hx
    exact Finset.mem_erase.mpr ⟨dma_ne_bar _, Finset.mem_univ _⟩
  refine BI.Entails.trans (bigSep_subset hs) ?_
  rw [bigSep_image_of_injOn (fun a ha b hb h => recvQ_inj (Finset.mem_range.mp (Finset.mem_coe.mp ha)) (Finset.mem_range.mp (Finset.mem_coe.mp hb)) (dma_inj h))]
  exact bigSep_mono fun t ht => by
    have h := launch_recv c (Finset.mem_range.mp ht)
    show cred (tallyOn (recvCell c t) (launchCredit (Pipeline.owing O₀) 0 (recvCell c t))) ⊢ _
    rw [h]

end RingK
-- ==== Proof.Enter.lean ====
/- The region's proof data, the body's obligation, and the region's record between the host operations. -/
module

public import proofs.«01_k».proof.Proof.Region

@[expose] public section

noncomputable section

namespace RingK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The proof data -/

section Enter

variable (W : Dev nD → Valuation τ sig (Elt F)) (c : Dev nD)

/-- What the region's entry makes of what was dealt. -/
def ready : sProp 𝕄 := iprop(∃ K, start W K c)

/-- The body's whole state before its one point, and after. -/
def Φ₀ : sProp 𝕄 := iprop(ready W c ∗ (∃ f, cPts (F := F) c f) ∗ ∃ r, prngReg c r)
def Φ₁ : sProp 𝕄 := iprop((bigSep (Finset.range 62) (zer (F := F) c) ∗ semVal (barCell c) 0) ∗ (∃ f, cPts (F := F) c f) ∗ ∃ r, prngReg c r)

def datOf : Dat τ (Elt F) Unit ℕ UU ℕ cfg0 c where
  A w := match w with
    | ⟨0, _⟩ => W c (Proc.devRef .tc main_v52)
    | ⟨1, _⟩ => W c (Proc.devRef .tc main_v53)
  after w _ := match w with
    | ⟨0, _⟩ => opnd W c
    | ⟨1, _⟩ => ringSum (opnd W) 31
  Φ t := match t with
    | ⟨0, _⟩ => Φ₀ W c
    | ⟨_ + 1, _⟩ => Φ₁ c
  q _ := fullShare
  owed t := match t with
    | ⟨0, _⟩ => O₀ c
    | ⟨_ + 1, _⟩ => 0

def pdats (p : Fin 1) (c : Dev nD) : Dat τ (Elt F) Unit ℕ UU ℕ (Pipeline.pin (pcfgs (F := F)) adm p) c := datOf W c

theorem hz0 : (fun a => (win0_0.index (0 : Fin 1)) a * main_v52.ty.shape.size a) = fun _ => 0 := funext fun a => by fin_cases a <;> decide
theorem hz1 : (fun a => (win0_1.index (0 : Fin 1)) a * main_v53.ty.shape.size a) = fun _ => 0 := funext fun a => by fin_cases a <;> decide
theorem read_blk0 (f : B512 F) : (win0_0.blk (0 : Fin 1)).view.read (Elt F) f = f :=
  Memref.read_access_unit_zero (Elt F) main_v52 hz0 (fun a => by fin_cases a <;> decide) f
theorem read_blk1 (f : B512 F) : (win0_1.blk (0 : Fin 1)).view.read (Elt F) f = f :=
  Memref.read_access_unit_zero (Elt F) main_v53 hz1 (fun a => by fin_cases a <;> decide) f

theorem before0 (d) : (datOf W c).before (0 : Fin 2) t0_0 d = opnd W c := by
  unfold Dat.before; rw [if_pos (fetch0_0 t0_0)]; exact read_blk0 (opnd W c)

theorem arr_out : (datOf W c).arrAt (1 : Fin 2) cfg0.N = ringSum (opnd W) 31 := by
  have h : (win0_1.blk (0 : Fin 1)).view.read (Elt F) ((datOf W c).arrAt (1 : Fin 2) cfg0.N) = ringSum (opnd W) 31 := by
    rw [show cfg0.N = ((0 : Fin 1) : Fin cfg0.N).val + 1 from rfl, (datOf W c).arrAt_succ (1 : Fin 2) (0 : Fin 1)]
    rw [show (cfg0.win 1).flush (0 : Fin 1) = true from by decide, if_pos rfl]
    exact View.read_write_univ _ _
  exact (read_blk1 _).symm.trans h

abbrev stg (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_stg (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem bigSep_W (Φ : Fin cfg0.W → sProp 𝕄) : bigSep Finset.univ Φ = iprop(Φ (0 : Fin 2) ∗ Φ (1 : Fin 2)) := bigSep_W0 Φ

/-! ## The body's obligation -/

def obPre : sProp 𝕄 :=
  iprop(Φ₀ W c ∗ (datOf W c).owesAt () t0_0.castSucc
    ∗ (∃ d, stg c cc0_stg0_0 ((datOf W c).before (0 : Fin 2) t0_0 d))
    ∗ (∃ d, stg c cc0_stg1_0 ((datOf W c).before (1 : Fin 2) t0_0 d)))
def obPost : sProp 𝕄 :=
  iprop(Φ₁ c ∗ (datOf W c).owesAt () t0_0.succ ∗ stg c cc0_stg0_0 (opnd W c) ∗ stg c cc0_stg1_0 (ringSum (opnd W) 31))

theorem ob_run : obPre W c ⊢ WP c (flat pM oM cM cc0_scratch1 cc0_scratch2 cc0_scratch3 cc0_scratch4) (fun _ => obPost W c) := by
  unfold obPre Φ₀ ready start carried
  unfold Dat.owesAt Pipeline.owesWithin
  rw [show (datOf W c).owed t0_0.castSucc = O₀ c from rfl]
  iintro ⟨⟨⟨%K, #Hrec, ⟨#HrN, #HrP, HatB, HcB, HdN, HdP⟩, Hpay, Hop⟩, Hc, Hp⟩, ⟨%Ws, %hWs, HO⟩, ⟨%d0, %g0, %hg0, Hx⟩, ⟨%d1, %g1, %hg1, Hout⟩⟩
  have hx : g0 = opnd W c := hg0.trans (before0 W c d0)
  subst hx
  ihave Ht := (toks_of c) $$ [Hpay Hop]
  · isplitl [Hpay] <;> iassumption
  icases Ht with ⟨HrS, HrV, Ht⟩
  iapply (body_run (opnd W) K c Ws)
  unfold bodyPre
  isplitr [Hp]
  · isplitr; · iexact Hrec
    isplitl [HrS]; · iexact HrS
    isplitl [HrV]; · iexact HrV
    isplitr; · iexact HrN
    isplitr; · iexact HrP
    isplitl [Ht]; · iexact Ht
    isplitl [HatB]; · iexact HatB
    isplitl [HcB]; · iexact HcB
    isplitl [HdN]; · iexact HdN
    isplitl [HdP]; · iexact HdP
    isplitl [HO]; · iexact HO
    isplitl [Hx]; · iexact Hx
    isplitl [Hout]; · iexists g1; iexact Hout
    iexact Hc
  unfold bodyPost obPost Φ₁ Dat.owesAt Pipeline.owesWithin
  rw [show (datOf W c).owed t0_0.succ = 0 from rfl]
  iintro ⟨Hz, Hb, ⟨%W', HO⟩, Hx, Hout, Hc⟩
  isplitl [Hz Hb Hc Hp]
  · isplitl [Hz Hb]; · isplitl [Hz] <;> iassumption
    isplitl [Hc] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 100000 in
theorem obligation : BodyObligation (datOf W c) (defs₀ (F := F)) 𝒱₀ () Set.univ := fun t => by
  rw [fin_N0 t]
  rw [bigSep_W, bigSep_W]
  simp only [owns_stg]
  show obPre W c ⊢ wp frame (wpE (defs₀ (F := F)) 𝒱₀ c none) Set.univ
    (cc0_body pM (Memref.isWhole_whole _) oM (Memref.isWhole_whole _) cM (Memref.isWhole_whole _) cc0_scratch1 cc0_scratch2 cc0_scratch3 cc0_scratch4) (fun _ => obPost W c)
  rw [body_eq]
  exact ob_run W c

/-! ## The region -/

abbrev restRefs : Finset (DevRef τ sig) := Pipeline.ucRefs τ sig \ Pipeline.arrRefs (τ := τ) spec0

def kept : sProp 𝕄 := semVal (barCell c) 0
def dealtAny : sProp 𝕄 := iprop(∃ K, dealt W K c)

theorem hopen : iprop(dealtAny W c ∗ Pipeline.ownSems0 osem c ∗ levAts L lv) ⊢ (|={Set.univ}=> ready W c : sProp 𝕄) := by
  unfold dealtAny ready
  iintro ⟨⟨%K, HT⟩, Hos, -⟩
  imod (open_all W K c) $$ [HT Hos] with H
  · isplitl [HT] <;> iassumption
  imodintro
  iexists K; iexact H

theorem hin : iprop(Pipeline.scopedRest spec0 c ∗ (∃ r, prngReg c r) ∗ StableHlo.held (c.tc : Thread nD τ) ∅ (W c) ∗ ready W c) ⊢ Φ₀ W c := by
  rw [scopedRest0_eq]
  unfold Φ₀
  iintro ⟨Hs, Hp, -, HX⟩
  isplitl [HX]; · iexact HX
  isplitl [Hs] <;> iassumption

theorem zer_all : bigSep (Finset.range 62) (zer (F := F) c) ⊢ (Pipeline.ownSems0 osem c : sProp 𝕄) := by
  have h : ∀ t, zer (F := F) c t ⊢ (iprop(semVal (recvCell c t) 0 ∗ semVal (sendCell c t) 0) : sProp 𝕄) := fun t => by
    unfold zer
    iintro ⟨H1, H2⟩
    isplitl [H2] <;> iassumption
  rw [ownSems_eq, ← bigSep_sep']
  exact bigSep_mono fun t _ => h t

theorem hout : Φ₁ c ⊢ (iprop(Pipeline.scopedRest spec0 c ∗ (∃ r, prngReg c r) ∗ StableHlo.held (c.tc : Thread nD τ) ∅ (Wend W c) ∗ Pipeline.ownSems0 osem c ∗ kept (F := F) c) : sProp 𝕄) := by
  have he : (StableHlo.held (c.tc : Thread nD τ) ∅ (Wend W c) : sProp 𝕄) = BI.emp := by unfold StableHlo.held; exact BI.bigSep_empty
  rw [scopedRest0_eq, he]
  unfold Φ₁ kept
  iintro ⟨⟨Hz, Hb⟩, Hc, Hp⟩
  isplitl [Hc]; · iexact Hc
  isplitl [Hp]; · iexact Hp
  isplitr; · iempintro
  isplitl [Hz]; · iapply (zer_all c); iexact Hz
  iexact Hb

theorem kitP : Pipeline.PLaunchFacts (nD := nD) (τ := τ) (pcfgs (F := F)) 0 := launch0.toP

theorem cutD (t : Fin (cfg0.N + 1)) (g : GSem nD τ sig) (i : Unit) (h : 0 < (datOf W c).owed t g i) : i ∈ L g ∧ (0 : ℕ) < lv g i := by
  have key : 0 < O₀ c g i → i ∈ L g ∧ (0 : ℕ) < lv g i := fun h => by
    rcases O₀_pos h with ⟨s, hs, rfl⟩ | rfl | rfl
    · exact ⟨by rw [L_tc]; exact Finset.mem_singleton_self _, by rw [lv_recv _ hs]; omega⟩
    · exact ⟨by rw [L_tc]; exact Finset.mem_singleton_self _, by show (0 : ℕ) < 1; omega⟩
    · exact ⟨by rw [L_tc]; exact Finset.mem_singleton_self _, by show (0 : ℕ) < 1; omega⟩
  obtain ⟨_ | n, ht⟩ := t
  · exact key h
  · exact absurd h (Nat.lt_irrefl 0)

theorem restW : ∀ b ∈ restRefs \ ∅, Wend W c b = W c b := fun b hb => by
  rw [Finset.sdiff_empty] at hb
  unfold Wend
  refine Function.update_of_ne (fun e => ?_) _ _
  rw [e] at hb
  exact (Finset.mem_sdiff.mp hb).2 (Finset.mem_map.mpr ⟨main_v53, Finset.mem_image.mpr ⟨(1 : Fin 2), Finset.mem_univ _, rfl⟩, rfl⟩)

theorem arr0 : ∀ w : Fin 2, (datOf W c).arrAt w 0 = W c (Proc.devRef .tc (Pipeline.arrRef spec0 w))
  | 0 => rfl
  | 1 => rfl
  | ⟨_ + 2, h⟩ => absurd h (Nat.not_lt.2 (Nat.le_add_left _ _))

theorem ne52 : (Proc.devRef .tc main_v52 : DevRef τ sig) ≠ Proc.devRef .tc main_v53 := StableHlo.devRef_ne_of_ne (by decide)

theorem Wend_out : Wend W c (Proc.devRef .tc main_v53) = ringSum (opnd W) 31 := by unfold Wend; exact Function.update_self _ _ _

theorem arrN : ∀ w : Fin 2, (datOf W c).arrAt w cfg0.N = Wend W c (Proc.devRef .tc (Pipeline.arrRef spec0 w))
  | 0 => ((datOf W c).arrAt_in (0 : Fin 2) rfl _).trans (Function.update_of_ne ne52 _ _).symm
  | 1 => (arr_out W c).trans (Wend_out W c).symm
  | ⟨_ + 2, h⟩ => absurd h (Nat.not_lt.2 (Nat.le_add_left _ _))

end Enter

section Seg

variable (W : Dev nD → Valuation τ sig (Elt F))

theorem share_eq (c : Dev nD) (w : Fin 2) : (datOf W c).share w = fullShare := by unfold Dat.share; split <;> rfl
theorem lv_stage (c : Dev nD) (w : Fin 2) (s : Fin (spec0 w).nbuf) :
    () ∈ L (((c : Thread nD τ), SemLoc.dma ((spec0 w).sem s)) : GSem nD τ sig) ∧ lv (((c : Thread nD τ), SemLoc.dma ((spec0 w).sem s)) : GSem nD τ sig) () ≤ 0 := by
  refine ⟨by rw [L_tc]; exact Finset.mem_singleton_self _, ?_⟩
  have h : ∀ (w : Fin 2) (s : Fin (spec0 w).nbuf), isRecv ((spec0 w).sem s).val = false := by decide +kernel
  show (if isRecv ((spec0 w).sem s).val then _ else 0) ≤ 0
  rw [h]; exact Nat.le_refl 0

set_option backward.isDefEq.respectTransparency.types false in
def reg : Pipeline.RegionSeg (pcfgs (F := F)) adm (pdats W) () defs₀ 𝒱₀ L lv 0 :=
  Pipeline.RegionSeg.ofTalk (pcfgs (F := F)) adm (pdats W) () defs₀ 𝒱₀ L lv 0 osem ownFacts
    ∅ restRefs (Finset.empty_subset _) kitP rfl (fun c => (obligation W c).loose)
    (fun _ => 0) O₀ (fun c => (zero_add _).symm) (fun _ => rfl) (fun _ => rfl) (fun c w => share_eq W c w)
    W (Wend W) (fun c => restW W c)
    (dealtAny W) (kept (F := F)) (ready W) (kept (F := F)) (hopen W) (hin W) (hout W)
    (fun c => by iintro H; imodintro; iexact H)
    (fun _ => 0)
    ⟨fun c w s => (lv_stage c w s).1, fun c w s => (lv_stage c w s).2, fun c t g i h => cutD W c t g i h⟩
    (fun _ => iprop(emp))
    (fun c w => arr0 W c w) (fun c w => arrN W c w)

theorem arr_sub : Pipeline.arrRefs (τ := τ) spec0 ⊆ Pipeline.ucRefs τ sig := Pipeline.arrRefs_sub_ucRefs spec0 winFacts0.arr_unscoped

theorem reg_pre (c : Dev nD) :
    iprop(StableHlo.held (c : Thread nD τ) (Pipeline.ucRefs τ sig) (W c) ∗ (dealtAny W c ∗ (∃ r, prngReg c r) ∗ ∃ Ws, owes (c : Thread nD τ) (O₀ c) Ws))
      ⊢ (reg W).pre c := by
  show _ ⊢ iprop(StableHlo.held (c.tc : Thread nD τ) (Pipeline.arrRefs (τ := τ) spec0) (W c) ∗ (∃ r, prngReg c r)
    ∗ (StableHlo.held (c.tc : Thread nD τ) restRefs (W c) ∗ emp) ∗ dealtAny W c ∗ ∃ Wd, owes (c : Thread nD τ) (0 + O₀ c) Wd)
  rw [StableHlo.held_sub_split (c.tc : Thread nD τ) arr_sub (W c), zero_add]
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem reg_post (c : Dev nD) : (reg W).post c
    ⊢ iprop(StableHlo.held (c : Thread nD τ) (Pipeline.ucRefs τ sig) (Wend W c) ∗ (semVal (barCell c) 0 ∗ ∃ Ws, owes (c : Thread nD τ) (0 : CellTallies nD τ sig Unit) Ws)) := by
  show iprop(StableHlo.held (c.tc : Thread nD τ) (Pipeline.arrRefs (τ := τ) spec0) (Wend W c) ∗ (∃ r, prngReg c r)
    ∗ (StableHlo.held (c.tc : Thread nD τ) restRefs (Wend W c) ∗ emp) ∗ kept (F := F) c ∗ ∃ Wd, owes (c : Thread nD τ) (0 : CellTallies nD τ sig Unit) Wd) ⊢ _
  rw [StableHlo.held_sub_split (c.tc : Thread nD τ) arr_sub (Wend W c)]
  unfold kept
  iintro ⟨Ha, -, ⟨Hr, -⟩, Hb, HO⟩
  isplitl [Ha Hr]
  · isplitl [Ha] <;> iassumption
  isplitl [Hb] <;> iassumption

end Seg

end RingK
-- ==== Proof.Launch.lean ====
/- The launch: every cell's invariant allocated, everything dealt, and the program's run. -/
module

public import proofs.«01_k».proof.Proof.Deal
public import proofs.«01_k».proof.Proof.Enter

@[expose] public section

noncomputable section

namespace RingK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The launch element: the pipeline's at its staging cells, and the ring's. -/
def u₀ : UU :=
  (initOf (Pipeline.cells cfgs cellOf_inj) (Pipeline.launchToks cfgs cellOf_inj), launchOf barCells xferCells allToks)

/-- The ring's launch element, all of it on device 0 until it is dealt. -/
def G (c : Dev nD) : sProp 𝕄 := if c = 0 then BI.own (ER (launchOf barCells xferCells allToks)) else iprop(emp)
theorem sep_G : bigSep Finset.univ (G (F := F)) = BI.own (ER (launchOf barCells xferCells allToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

section Launch

variable (m : (ℓ : Loc nD τ sig) → Buf (Elt F) ℓ) (ρ : Dev nD → PrngReg)

/-! ## Dealing -/

/-- The duty tokens device `c` spends. -/
def spend (c : Dev nD) : sProp 𝕄 :=
  iprop(dutyTok ER (barCell (nxt c)) 0 false ∗ dutyTok ER (barCell (prv c)) 0 true
    ∗ (bigSep (Finset.range 62) fun t => dutyTok ER (sendCell c t) 0 false)
    ∗ bigSep (Finset.range 62) fun t => dutyTok ER (recvCell (nxt c) t) 0 false)

theorem toks_deal : bigSep allToks (dtok (F := F)) ⊢ bigSep Finset.univ (spend (F := F)) := by
  rw [sep_toks, sep_nxt (fun c => (dutyTok ER (barCell c) 0 false : sProp 𝕄)), sep_prv (fun c => (dutyTok ER (barCell c) 0 true : sProp 𝕄)),
    sep_nxt (fun c => (bigSep (Finset.range 62) fun t => (dutyTok ER (recvCell c t) 0 false : sProp 𝕄)))]
  unfold spend
  rw [bigSep_sep', bigSep_sep', bigSep_sep']

/-- What device `c` gets of the ring's resources besides the credit: its position, its tokens, its closed cells. -/
def share (c : Dev nD) : sProp 𝕄 :=
  iprop(atPos ER (barCell c) 0 ∅ 0 ∗ spend (F := F) c
    ∗ (bigSep (Finset.range 62) fun t => openTok ER (sendCell c t)) ∗ bigSep (Finset.range 62) fun t => openTok ER (recvCell c t))

/-- What the devices share for good. -/
def shared (P : Dev nD → B512 F) (K : GSem nD τ sig → ℕ) : sProp 𝕄 :=
  iprop(recs P K ∗ bigSep Finset.univ fun c : Dev nD => reached ER (barCell c) 0)
instance shared_persistent (P : Dev nD → B512 F) (K : GSem nD τ sig → ℕ) : BI.Persistent (shared P K) := by unfold shared; infer_instance

theorem reached_of (c : Dev nD) : (bigSep Finset.univ fun c : Dev nD => (reached ER (barCell c) 0 : sProp 𝕄)) ⊢ reached ER (barCell c) 0 :=
  bigSep_elim (Finset.mem_univ c)

variable (W : Dev nD → Valuation τ sig (Elt F))

/-- What rides beside the buffers up to the region. -/
def before (c : Dev nD) : sProp 𝕄 := iprop(dealtAny W c ∗ (∃ r, prngReg c r) ∗ ∃ Ws, owes (c : Thread nD τ) (O₀ c) Ws)
/-- What rides beside them after it. -/
def behind (c : Dev nD) : sProp 𝕄 := iprop(semVal (barCell c) 0 ∗ ∃ Ws, owes (c : Thread nD τ) (0 : CellTallies nD τ sig Unit) Ws)
def E (j : Fin 2) (c : Dev nD) : sProp 𝕄 := if j = 0 then before W c else behind (F := F) c

/-- The credit, the register and the debt. -/
def credit (c : Dev nD) : sProp 𝕄 :=
  iprop((cred (tallyAt (barCell c) () 2) ∗ bigSep (Finset.range 62) fun t => cred (tallyAt (recvCell c t) () N))
    ∗ owes (c : Thread nD τ) (O₀ c) ∅ ∗ prngReg c (ρ c))

theorem before_intro (K : GSem nD τ sig → ℕ) (c : Dev nD) :
    iprop(shared (opnd W) K ∗ (share (F := F) c ∗ credit ρ c)) ⊢ before W c := by
  unfold shared share spend credit before dealtAny dealt carried
  rw [show pay (F := F) c = fun t => pay (F := F) c t from rfl, show closed (F := F) c = fun t => closed (F := F) c t from rfl]
  unfold pay closed
  rw [bigSep_sep', bigSep_sep', bigSep_sep']
  iintro ⟨⟨#Hrec, #Hre⟩, ⟨Hat, ⟨HdN, HdP, HdS, HdV⟩, HoS, HoV⟩, ⟨Hc2, HcV⟩, HO, Hp⟩
  isplitr [HO Hp]
  · iexists K
    isplitr; · iexact Hrec
    isplitl [Hat HdN HdP Hc2]
    · isplitr; · iapply (reached_of (F := F) (nxt c)); iexact Hre
      isplitr; · iapply (reached_of (F := F) (prv c)); iexact Hre
      isplitl [Hat]; · iexact Hat
      isplitl [Hc2]; · iexact Hc2
      isplitl [HdN] <;> iassumption
    isplitl [HdS HdV HcV]
    · isplitl [HdS]; · iexact HdS
      isplitl [HdV] <;> iassumption
    isplitl [HoS] <;> iassumption
  isplitl [Hp]; · iexists (ρ c); iexact Hp
  iexists ∅; iexact HO

theorem unscoped_eq : ∀ sm : SemLoc sig, sm.isScoped .tc = false → sm = .reg barS := by decide +kernel
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by
      ext sm
      rw [Finset.mem_filter, Finset.mem_singleton]
      refine ⟨fun h => unscoped_eq sm (Bool.eq_false_iff.mpr h.2), fun h => ⟨Finset.mem_univ _, ?_⟩⟩
      rw [h]; decide, BI.bigSep_singleton]

theorem deal_core (c : Dev nD) :
    iprop(unscopedSems0 c ∗ owes (c : Thread nD τ) (O₀ c) ∅ ∗ Pipeline.launchCred O₀ c ∗ prngReg c (ρ c) ∗ G (F := F) c)
      ⊢ iprop(credit ρ c ∗ (semVal (barCell c) 0 ∗ G (F := F) c)) := by
  rw [unscopedSems0_eq]
  unfold credit
  iintro ⟨Hus, HO, Hcr, Hp, HG⟩
  ihave Hc := (creds (F := F) c) $$ Hcr
  isplitl [HO Hc Hp]
  · isplitl [Hc]; · iexact Hc
    isplitl [HO] <;> iassumption
  isplitl [Hus] <;> iassumption

theorem deal_opens : bigSep xferCells (fun g => (openTok ER g : sProp 𝕄))
    ⊢ iprop((bigSep Finset.univ fun c : Dev nD => bigSep (Finset.range 62) fun t => openTok ER (sendCell c t))
      ∗ bigSep Finset.univ fun c : Dev nD => bigSep (Finset.range 62) fun t => openTok ER (recvCell c t)) := by
  rw [sep_xfer]
theorem deal_sem : (bigSep Finset.univ fun c : Dev nD => semVal (barCell c) 0) ⊢ (bigSep barCells fun g => semVal g 0 : sProp 𝕄) := by rw [sep_bar]
theorem deal_pos : (bigSep barCells fun g => atPos ER g 0 ∅ 0) ⊢ (bigSep Finset.univ fun c : Dev nD => atPos ER (barCell c) 0 ∅ 0 : sProp 𝕄) := by rw [sep_bar]
theorem deal_reached : (bigSep barCells fun g => reached ER g 0) ⊢ (bigSep Finset.univ fun c : Dev nD => reached ER (barCell c) 0 : sProp 𝕄) := by rw [sep_bar]
theorem deal_share : iprop((bigSep Finset.univ fun c : Dev nD => atPos ER (barCell c) 0 ∅ 0) ∗ bigSep Finset.univ (spend (F := F))
      ∗ (bigSep Finset.univ fun c : Dev nD => bigSep (Finset.range 62) fun t => openTok ER (sendCell c t))
      ∗ bigSep Finset.univ fun c : Dev nD => bigSep (Finset.range 62) fun t => openTok ER (recvCell c t))
    ⊢ (bigSep Finset.univ (share (F := F)) : sProp 𝕄) := by
  unfold share; rw [bigSep_sep', bigSep_sep', bigSep_sep']
theorem deal_all (K : GSem nD τ sig → ℕ) :
    iprop(shared (opnd W) K ∗ bigSep Finset.univ (share (F := F)) ∗ bigSep Finset.univ (credit (F := F) ρ)) ⊢ bigSep Finset.univ (before W) := by
  rw [← bigSep_sep']
  exact bigSep_with_persistent fun c _ => before_intro ρ W K c
theorem deal_G : bigSep Finset.univ (G (F := F)) ⊢ BI.own (ER (launchOf barCells xferCells allToks)) := by rw [sep_G]
theorem deal_cells (P : Dev nD → B512 F) (K : GSem nD τ sig → ℕ) :
    bigSep (barCells ∪ xferCells) (fun g => (cellInv ER (ringRd P) (K g) g : sProp 𝕄)) ⊢ bigSep cells fun g => cellInv ER (ringRd P) (K g) g := by
  rw [cells_eq]
theorem deal_split : (bigSep Finset.univ fun c : Dev nD => iprop(unscopedSems0 c ∗ owes (c : Thread nD τ) (O₀ c) ∅ ∗ Pipeline.launchCred O₀ c ∗ prngReg c (ρ c) ∗ G (F := F) c))
    ⊢ iprop(bigSep Finset.univ (credit (F := F) ρ) ∗ (bigSep Finset.univ fun c : Dev nD => semVal (barCell c) 0) ∗ bigSep Finset.univ (G (F := F))) := by
  rw [← bigSep_sep', ← bigSep_sep']
  exact bigSep_mono fun c _ => deal_core ρ c

/-- What the funding of the cells gives, sorted by device. -/
def funded (P : Dev nD → B512 F) (K : GSem nD τ sig → ℕ) : sProp 𝕄 :=
  iprop((bigSep cells fun g => cellInv ER (ringRd P) (K g) g)
    ∗ (bigSep Finset.univ fun c : Dev nD => reached ER (barCell c) 0) ∗ bigSep Finset.univ (share (F := F)))

theorem fund_sort (P : Dev nD → B512 F) (K : GSem nD τ sig → ℕ) (φ : Prop) :
    iprop(⌜φ⌝ ∗ bigSep (barCells ∪ xferCells) (fun g => cellInv ER (ringRd P) (K g) g)
        ∗ bigSep barCells (fun g => reached ER g 0) ∗ bigSep barCells (fun g => atPos ER g 0 ∅ 0)
        ∗ bigSep xferCells (fun g => openTok ER g) ∗ bigSep allToks (dtok (F := F)))
      ⊢ (iprop(∃ K, funded P K) : sProp 𝕄) := by
  unfold funded
  iintro ⟨-, Hinv, Hr, Hat, Hopen, Htok⟩
  iexists K
  isplitl [Hinv]; · iapply (deal_cells P K); iexact Hinv
  isplitl [Hr]; · iapply (deal_reached (F := F)); iexact Hr
  iapply (deal_share (F := F))
  isplitl [Hat]; · iapply (deal_pos (F := F)); iexact Hat
  isplitl [Htok]; · iapply (toks_deal (F := F)); iexact Htok
  iapply (deal_opens (F := F)); iexact Hopen

theorem fund (P : Dev nD → B512 F) :
    iprop((bigSep Finset.univ fun c : Dev nD => semVal (barCell c) 0) ∗ BI.own (ER (launchOf barCells xferCells allToks)))
      ⊢ (|={Set.univ}=> ∃ K, funded P K : sProp 𝕄) := by
  have hfund := Rounds.fund_launch (ER (F := F)) (ringRd P) bar_disj (fun g _ h => h) allToks (Es := Set.univ)
  refine (sep_mono_left (deal_sem (F := F))).trans (hfund.trans (fupd_mono ?_))
  exact exists_elim fun κ => fund_sort P κ _

theorem deal_glue {A B C R Q : sProp 𝕄} {Y : (GSem nD τ sig → ℕ) → sProp 𝕄} (hf : iprop(B ∗ C) ⊢ (|={Set.univ}=> ∃ K, Y K : sProp 𝕄))
    (hq : ∀ K, iprop(R ∗ A ∗ Y K) ⊢ Q) : iprop((A ∗ B ∗ C) ∗ R) ⊢ (|={Set.univ}=> Q : sProp 𝕄) := by
  iintro ⟨⟨HA, HB, HC⟩, HR⟩
  imod hf $$ [HB HC] with ⟨%K, HY⟩
  · isplitl [HB]; · iexact HB
    iexact HC
  imodintro
  iapply (hq K)
  isplitl [HR]; · iexact HR
  isplitl [HA]; · iexact HA
  iexact HY

theorem deal_order {A B I R S : sProp 𝕄} : iprop(A ∗ B ∗ I ∗ R ∗ S) ⊢ iprop(((I ∗ A) ∗ R) ∗ S ∗ B) := by
  iintro ⟨HA, HB, HI, HR, HS⟩
  isplitl [HI HA HR]
  · isplitl [HI HA]
    · isplitl [HI]; · iexact HI
      iexact HA
    iexact HR
  isplitl [HS]; · iexact HS
  iexact HB

theorem deal_last (K : GSem nD τ sig → ℕ) :
    iprop(levAts L lv ∗ bigSep Finset.univ (credit (F := F) ρ) ∗ funded (opnd W) K) ⊢ bigSep Finset.univ (before W) := by
  exact BI.Entails.trans deal_order (deal_all ρ W K)

theorem deal : iprop((bigSep Finset.univ fun c : Dev nD => iprop(unscopedSems0 c ∗ owes (c : Thread nD τ) (O₀ c) ∅ ∗ Pipeline.launchCred O₀ c ∗ prngReg c (ρ c) ∗ G (F := F) c)) ∗ levAts L lv)
    ⊢ (|={Set.univ}=> bigSep Finset.univ (before W) : sProp 𝕄) := by
  exact (sep_mono_left ((deal_split ρ).trans (sep_mono_right (sep_mono_right deal_G)))).trans
    (deal_glue (fund (opnd W)) fun K => deal_last ρ W K)

/-! ## The run -/

/-- The buffers a region leaves. -/
def outs : Outs (F := F) := fun _ r c => Wend (V3 m) c (Proc.devRef .tc r)
theorem V4_eq (c : Dev nD) : V4 m (outs m) c = Wend (V3 m) c := by
  show Function.update (V3 m c) (Proc.devRef .tc main_v53) (Wend (V3 m) c (Proc.devRef .tc main_v53)) = _
  rw [Wend_out]; rfl

abbrev T₀ (c : Dev nD) : sProp 𝕄 := iprop(StableHlo.held (c : Thread nD τ) (Pipeline.ucRefs τ sig) (V0 m c) ∗ E (V3 m) 0 c)
abbrev Tₙ (c : Dev nD) : sProp 𝕄 := iprop(StableHlo.held (c : Thread nD τ) (Pipeline.ucRefs τ sig) (V5 m (outs m) c) ∗ semVal (barCell c) 0)

theorem init :
    iprop((bigSep Finset.univ fun c : Dev nD => iprop(unscopedBufs c (fun b => m ((c.tc : Thread nD τ).loc b)) ∗ unscopedSems0 c
          ∗ owes (c : Thread nD τ) (O₀ c) ∅ ∗ Pipeline.launchCred O₀ c ∗ prngReg c (ρ c) ∗ G (F := F) c)) ∗ levAts L lv)
      ⊢ (|={Set.univ}=> bigSep Finset.univ (T₀ m) : sProp 𝕄) := by
  have hsplit : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ G (F := F) c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (O₀ c) ∅ ∗ Pipeline.launchCred O₀ c ∗ prngReg c (ρ c) ∗ G (F := F) c))
          : sProp 𝕄) := by
    rw [← bigSep_sep']
    exact bigSep_mono fun c _ => by
      rw [← Pipeline.unscopedBufs_held (Ix := Unit) (Name := ℕ) (U := UU) (Lvl := ℕ) c (V0 m c)]; exact BI.Entails.refl _
  iintro ⟨H, Hla⟩
  ihave H' := hsplit $$ H
  icases H' with ⟨Hh, Hr⟩
  imod (deal ρ (V3 m)) $$ [Hr Hla] with HE
  · isplitl [Hr]; · iexact Hr
    iexact Hla
  imodintro
  unfold T₀
  rw [bigSep_sep']
  isplitl [Hh]; · iexact Hh
  iexact HE

theorem chain_end (c : Dev nD) :
    iprop(StableHlo.held (c : Thread nD τ) (Pipeline.ucRefs τ sig) (V5 m (outs m) c) ∗ E (V3 m) 1 c)
      ⊢ iprop(Tₙ m c ∗ ∃ Ws, owes (c : Thread nD τ) (0 : CellTallies nD τ sig Unit) Ws) := by
  show iprop(_ ∗ behind (F := F) c) ⊢ _
  unfold behind
  iintro ⟨Hh, Hb, HO⟩
  isplitr [HO]
  · isplitl [Hh] <;> iassumption
  iexact HO
theorem chain_in (c : Dev nD) :
    iprop(StableHlo.held (c : Thread nD τ) (Pipeline.ucRefs τ sig) (V3 m c) ∗ E (V3 m) 0 c) ⊢ (reg (V3 m)).pre c := reg_pre (V3 m) c
theorem chain_out (c : Dev nD) :
    (reg (V3 m)).post c ⊢ iprop(StableHlo.held (c : Thread nD τ) (Pipeline.ucRefs τ sig) (V4 m (outs m) c) ∗ E (V3 m) 1 c) := by
  rw [V4_eq]; exact reg_post (V3 m) c

theorem mem_uc (r : Ref sig .tc) (h : r.isScoped = false) : (Proc.devRef .tc r : DevRef τ sig) ∈ Pipeline.ucRefs τ sig :=
  Finset.mem_filter.mpr ⟨StableHlo.devRef_mem_tcRefs r, fun h' => Bool.false_ne_true (h.symm.trans h')⟩

set_option backward.isDefEq.respectTransparency.types false in
/-- From any memory with counters at zero, the program ends on every device, faulting nowhere, its arguments as they
    were, its result what the last host stretch makes of the ring's sum, every counter at zero. -/
theorem run_main : θ_run defs (onTc (τ := τ) (main (F := F))) ⟨m, fun _ => 0, ρ⟩ (fun r =>
    (∀ c : Dev nD, r.2.mem ((c.tc : Thread nD τ).loc main_v54) = V5 m (outs m) c main_v54
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) := by
  refine Pipeline.θ_run_regions_kit_dev_sems (pcfgs (F := F)) adm (pdats (V3 m)) () cellOf_inj EP defs₀ 𝒱₀ L lv m ρ main
    (segs m (outs m) 𝒱₀ L lv (E (V3 m)) () (pdats (V3 m)) (reg (V3 m)))
    (fun c Q => by
      rewrite [main_chain c, Pipeline.Seg.run_eq_chain,
        show (segs m (outs m) 𝒱₀ L lv (E (V3 m)) () (pdats (V3 m)) (reg (V3 m)) c).map Pipeline.Seg.prog = [
          StableHlo.seq (hostOps0 c),
          StableHlo.seq hostOps0_1,
          StableHlo.seq hostOps0_2,
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [sep_G]; iexact HX)
    (T₀ := T₀ m) (Tₙ := Tₙ m)
    (hch := fun c => ⟨.rfl, .rfl, .rfl, chain_in m c, chain_out m c, chain_end m c⟩)
    (hinit := init m ρ)
    (QY := fun c s => (s.mem ((c.tc : Thread nD τ).loc main_v54) = V5 m (outs m) c main_v54
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)) ∧ s.sem (barCell c) = 0)
    (hfin := fun c s' => ?_)
    (hQ := fun s h hs => ⟨fun c => (h c).1, sem_eq_zero hs fun c sm hsm => by
        obtain rfl := unscoped_eq sm hsm
        exact (h c).2⟩)
  unfold Tₙ StableHlo.held
  iintro ⟨⟨Hh, Hb⟩, HSI⟩
  icombine HSI Hb gives %hb
  ihave Hr := (pointsTo_read_all (Pipeline.ucRefs τ sig) (fun b => ((c : Thread nD τ).1, b)) (V5 m (outs m) c) s') $$ [Hh HSI]
  · isplitl [Hh] <;> iassumption
  icases Hr with ⟨%h, HSI⟩
  imodintro
  isplitr
  · ipureintro
    exact ⟨⟨h (Proc.devRef .tc main_v54) (mem_uc main_v54 (by decide)),
      (h (Proc.devRef .tc main_arg0) (mem_uc main_arg0 (by decide))).trans (V5_main_arg0 m (outs m) c),
      (h (Proc.devRef .tc main_arg1) (mem_uc main_arg1 (by decide))).trans (V5_main_arg1 m (outs m) c),
      (h (Proc.devRef .tc main_arg2) (mem_uc main_arg2 (by decide))).trans (V5_main_arg2 m (outs m) c),
      (h (Proc.devRef .tc main_arg3) (mem_uc main_arg3 (by decide))).trans (V5_main_arg3 m (outs m) c),
      (h (Proc.devRef .tc main_arg4) (mem_uc main_arg4 (by decide))).trans (V5_main_arg4 m (outs m) c)⟩, by simpa using hb⟩
  iexact HSI

end Launch

end RingK
-- ==== Proof.Head.lean ====
/- One head of attention over exact arithmetic: scores, the mask, the softmax, the weighted sum. -/
module

public import Idealize.ShloMosaic.Lib.Pointwise
public import Idealize.ShloMosaic.Lib.Routing.OpsOrder

@[expose] public section

noncomputable section

namespace RingK

open Idealize.ShloMosaic

/-- Whether query `i` looks at key `j`: a window of 128 either side, the first 32 keys, the first 32 queries. -/
def seen (i j : Fin 256) : BitVec 1 :=
  IntOp.ori (IntOp.cmpi .sle (IntOp.absi (IntOp.subi (BitVec.ofNat 32 i.val) (BitVec.ofNat 32 j.val))) 128#32)
    (IntOp.ori (IntOp.cmpi .slt (BitVec.ofNat 32 j.val) 32#32) (IntOp.cmpi .slt (BitVec.ofNat 32 i.val) 32#32))

/-- Every query looks at its own key. -/
theorem seen_self (i : Fin 256) : seen i i = 1#1 := by
  revert i; decide +kernel

/-- So every row of the mask has an entry that is set. -/
theorem seen_some (i : Fin 256) : Finset.univ.fold IntOp.ori 0#1 (fun j => seen i j) = 1#1 :=
  (Routing.fold_ori _ _).mpr ⟨i, Finset.mem_univ i, seen_self i⟩

/-- A row of masked scores: query `i` against every key. -/
def scoreRow (Q K : Fin 256 → Fin 64 → EReal) (i j : Fin 256) : EReal :=
  Scalar.select (seen i j) ((∑ e : Fin 64, Q i e * K j e) * Ideal.ofBits .f32 0x3E000000#32) (Ideal.ofBits .f32 0xCE6E6B28#32)

/-- The greatest of a row. -/
def rowMax (s : Fin 256 → EReal) : EReal := Finset.univ.fold max (Ideal.ofBits .f32 0xFF800000#32) s

/-- The row's exponentials, each less the greatest. -/
def rowExp (s : Fin 256 → EReal) (j : Fin 256) : EReal := Ideal.exp (s j - rowMax s)

/-- The row's softmax. -/
def rowSoft (s : Fin 256 → EReal) (j : Fin 256) : EReal := Ideal.div (rowExp s j) (∑ k : Fin 256, rowExp s k)

/-- One head's output at query `i`, coordinate `d`. -/
def headOut (Q K V : Fin 256 → Fin 64 → EReal) (i : Fin 256) (d : Fin 64) : EReal :=
  ∑ j : Fin 256, V j d * rowSoft (scoreRow Q K i) j

/-- The first value of a running maximum changes nothing when taken again. -/
theorem max_fold (a : EReal) (s : Fin 256 → EReal) : max a (Finset.univ.fold max a s) = Finset.univ.fold max a s :=
  max_eq_right (Finset.le_fold_max (c := a) |>.mpr (Or.inl le_rfl))

end RingK
-- ==== Proof.RefValue.lean ====
/- The reference's result read entry by entry: heads of attention, then the output product. -/
module

public import proofs.«01_k».proof.Proof.Gen.ReferenceIdeal.Run
public import proofs.«01_k».proof.Proof.Head

@[expose] public section

noncomputable section

namespace RingK.Ref

open Cert.ReferenceIdeal Cert.ReferenceIdeal.Gen Idealize.ShloMosaic

/-- The mask. -/
def maskR : S256x256.Idx → BitVec 1 :=
  ori (cmpi .sle (absi (subi
      (broadcastInDim S256x256 ![0, 1] bcast_S256x1_S256x256_0_1 (broadcastInDim S256x1 ![0] bcast_S256_S256x1_0 (iotaInDim S256 32 0)))
      (broadcastInDim S256x256 ![0, 1] bcast_S1x256_S256x256_0_1 (broadcastInDim S1x256 ![1] bcast_S256_S1x256_1 (iotaInDim S256 32 0)))))
      (broadcastInDim S256x256 ![] bcast_S_S256x256 (constantI S_ 32 128#32)))
    (ori (broadcastInDim S256x256 ![0, 1] bcast_S1x256_S256x256_0_1
        (cmpi .slt (broadcastInDim S1x256 ![1] bcast_S256_S1x256_1 (iotaInDim S256 32 0)) (broadcastInDim S1x256 ![] bcast_S_S1x256 (constantI S_ 32 32#32))))
      (broadcastInDim S256x256 ![0, 1] bcast_S256x1_S256x256_0_1
        (cmpi .slt (broadcastInDim S256x1 ![0] bcast_S256_S256x1_0 (iotaInDim S256 32 0)) (broadcastInDim S256x1 ![] bcast_S_S256x1 (constantI S_ 32 32#32)))))

theorem maskR_at (i j : Fin 256) : maskR (ix2 i j) = seen i j := by
  unfold maskR seen
  pointwise

/-- Which rows of the mask have an entry set. -/
def keepR (k : S256x256.Idx → BitVec 1) : S256.Idx → BitVec 1 :=
  Host.reduce IntOp.ori k (constantI S_ 1 0#1) reducesTo_S256x256_S256_d1 h_S_

theorem keepR_at (i : Fin 256) : keepR maskR (ix1 i) = 1#1 := by
  unfold keepR
  pointwise
  simp only [maskR_at]
  exact seen_some i

/-- The queries, head by head. -/
def queryR (x : FVec Ideal S2x256x512 .bf16) (wq : FVec Ideal S512x8192 .bf16) : FVec Ideal S2x256x128x64 .bf16 :=
  shapeCast S2x256x128x64 (truncf .bf16 (Host.dotGeneral dot_S2x256x512_S512x8192_S2x256x8192_2_0_01_1_n_n none x wq) bitsLt_bf16_f32) shapeCasts_S2x256x8192_S2x256x128x64

theorem queryR_at (x wq) (b : Fin 2) (i : Fin 256) (h : Fin 128) (e : Fin 64) :
    queryR x wq (ix4 b i h e) = ∑ k : Fin 512, x (ix3 b i k) * wq (ix2 k ⟨h.val * 64 + e.val, by omega⟩) := by
  unfold queryR
  pointwise

/-- The masked scores. -/
def scoreR (q k : FVec Ideal S2x256x128x64 .bf16) (mk : S256x256.Idx → BitVec 1) : FVec Ideal S2x128x256x256 .f32 :=
  select (broadcastInDim S2x128x256x256 ![0, 1, 2, 3] bcast_S1x1x256x256_S2x128x256x256_0_1_2_3 (broadcastInDim S1x1x256x256 ![2, 3] bcast_S256x256_S1x1x256x256_2_3 mk))
    (mulf (extf .f32 (truncf .bf16 (Host.dotGeneral dot_S2x256x128x64_S2x256x128x64_S2x128x256x256_3_3_1_1_02_02 none q k) bitsLt_bf16_f32) bitsLt_bf16_f32)
      (broadcastInDim S2x128x256x256 ![] bcast_S_S2x128x256x256 (constant (F := Ideal) S_ .f32 0x3E000000#32)))
    (broadcastInDim S2x128x256x256 ![] bcast_S_S2x128x256x256 (constant (F := Ideal) S_ .f32 0xCE6E6B28#32))

theorem scoreR_at (q k) (b : Fin 2) (i j : Fin 256) (h : Fin 128) :
    scoreR q k maskR (ix4 b h i j) = scoreRow (fun i e => q (ix4 b i h e)) (fun j e => k (ix4 b j h e)) i j := by
  unfold scoreR scoreRow
  pointwise
  rw [maskR_at]

/-- The exponentials. -/
def expR (s : FVec Ideal S2x128x256x256 .f32) : FVec Ideal S2x128x256x256 .f32 :=
  Host.exp (subf s (broadcastInDim S2x128x256x256 ![0, 1, 2, 3] bcast_S2x128x256x1_S2x128x256x256_0_1_2_3 (broadcastInDim S2x128x256x1 ![0, 1, 2] bcast_S2x128x256_S2x128x256x1_0_1_2
    (Host.reduce (FloatOps.maximumf (F := Ideal)) s (constant (F := Ideal) S_ .f32 0xFF800000#32) reducesTo_S2x128x256x256_S2x128x256_d3 h_S_))))

theorem expR_at (s) (b : Fin 2) (i j : Fin 256) (h : Fin 128) :
    expR s (ix4 b h i j) = rowExp (fun j => s (ix4 b h i j)) j := by
  unfold expR rowExp rowMax
  pointwise

/-- The softmax; a row with nothing set would be zero. -/
def softR (w : FVec Ideal S2x128x256x256 .f32) (kp : S256.Idx → BitVec 1) : FVec Ideal S2x128x256x256 .f32 :=
  select (broadcastInDim S2x128x256x256 ![0, 1, 2, 3] bcast_S1x1x256x1_S2x128x256x256_0_1_2_3 (broadcastInDim S1x1x256x1 ![2] bcast_S256_S1x1x256x1_2 kp))
    (Host.divf w (broadcastInDim S2x128x256x256 ![0, 1, 2, 3] bcast_S2x128x256x1_S2x128x256x256_0_1_2_3
      (select (broadcastInDim S2x128x256x1 ![0, 1, 2, 3] bcast_S1x1x256x1_S2x128x256x1_0_1_2_3 (broadcastInDim S1x1x256x1 ![2] bcast_S256_S1x1x256x1_2 kp))
        (broadcastInDim S2x128x256x1 ![0, 1, 2] bcast_S2x128x256_S2x128x256x1_0_1_2 (Host.reduceAdd w (constant (F := Ideal) S_ .f32 0x00000000#32) reducesTo_S2x128x256x256_S2x128x256_d3 h_S_))
        (broadcastInDim S2x128x256x1 ![] bcast_S_S2x128x256x1 (constant (F := Ideal) S_ .f32 0x3F800000#32)))))
    (broadcastInDim S2x128x256x256 ![] bcast_S_S2x128x256x256 (constant (F := Ideal) S_ .f32 0x00000000#32))

theorem softR_at (w) (b : Fin 2) (i j : Fin 256) (h : Fin 128) :
    softR w (keepR maskR) (ix4 b h i j) = Ideal.div (w (ix4 b h i j)) (∑ k : Fin 256, w (ix4 b h i k)) := by
  unfold softR
  pointwise
  rw [keepR_at]
  rfl

/-- The heads' outputs, side by side. -/
def ctxR (v : FVec Ideal S2x256x128x64 .bf16) (w : FVec Ideal S2x128x256x256 .f32) : FVec Ideal S2x256x8192 .f32 :=
  shapeCast S2x256x8192 (transpose S2x256x128x64 [0, 3, 1, 2] (Host.dotGeneral dot_S2x256x128x64_S2x128x256x256_S2x128x64x256_1_3_3_2_02_01 none (extf .f32 v bitsLt_bf16_f32) w) transposes_S2x128x64x256_S2x256x128x64_0_3_1_2) shapeCasts_S2x256x128x64_S2x256x8192

theorem ctxR_at (v w) (b : Fin 2) (i : Fin 256) (p : Fin 8192) :
    ctxR v w (ix3 b i p)
      = ∑ j : Fin 256, v (ix4 b j ⟨p.val / 64, by omega⟩ ⟨p.val % 64, by omega⟩) * w (ix4 b ⟨p.val / 64, by omega⟩ i j) := by
  unfold ctxR
  pointwise

/-- The output product. -/
def outR (y : FVec Ideal S2x256x8192 .f32) (wo : FVec Ideal S8192x512 .bf16) : FVec Ideal S2x256x512 .f32 :=
  Host.dotGeneral dot_S2x256x8192_S8192x512_S2x256x512_2_0_01_1_n_n none y (extf .f32 wo bitsLt_bf16_f32)

theorem outR_at (y wo) (b : Fin 2) (i : Fin 256) (o : Fin 512) :
    outR y wo (ix3 b i o) = ∑ p : Fin 8192, y (ix3 b i p) * wo (ix2 p o) := by
  unfold outR
  pointwise

/-- The whole reference, of its arguments. -/
def wholeR (x : FVec Ideal S2x256x512 .bf16) (wq : FVec Ideal S512x8192 .bf16) (k v : FVec Ideal S2x256x128x64 .bf16)
    (wo : FVec Ideal S8192x512 .bf16) : FVec Ideal S2x256x512 .f32 :=
  outR (ctxR v (softR (expR (scoreR (queryR x wq) k maskR)) (keepR maskR))) wo

/-- Head `h` of batch `b`, at query `i` and coordinate `d`. -/
def headR (x : FVec Ideal S2x256x512 .bf16) (wq : FVec Ideal S512x8192 .bf16) (k v : FVec Ideal S2x256x128x64 .bf16)
    (b : Fin 2) (h : Fin 128) : Fin 256 → Fin 64 → EReal :=
  headOut (fun i e => ∑ n : Fin 512, x (ix3 b i n) * wq (ix2 n ⟨h.val * 64 + e.val, by omega⟩))
    (fun j e => k (ix4 b j h e)) (fun j e => v (ix4 b j h e))

theorem wholeR_at (x wq k v wo) (b : Fin 2) (i : Fin 256) (o : Fin 512) :
    wholeR x wq k v wo (ix3 b i o)
      = ∑ p : Fin 8192, headR x wq k v b ⟨p.val / 64, by omega⟩ i ⟨p.val % 64, by omega⟩ * wo (ix2 p o) := by
  unfold wholeR headR headOut rowSoft
  simp only [outR_at, ctxR_at, softR_at, expR_at, scoreR_at, queryR_at]

set_option maxRecDepth 8192 in
theorem res_eq (m : (ℓ : Loc nD τ sig) → Buf (Elt Ideal) ℓ) (c : Dev nD) :
    Cert.ReferenceIdeal.Value.res_main_v47 m c
      = wholeR (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  unfold Cert.ReferenceIdeal.Value.res_main_v47
  rfl

end RingK.Ref
-- ==== Proof.Partial.lean ====
/- One device's partial result read entry by entry: its four heads of attention, then its rows of the output product. -/
module

public import proofs.«01_k».proof.Proof.Gen.KernelIdeal.Regions
public import proofs.«01_k».proof.Proof.Head

@[expose] public section

noncomputable section

namespace RingK.Part

open Cert.KernelIdeal Cert.KernelIdeal.Gen Idealize.ShloMosaic

/-- The device's place in its own words, times 256: where its columns start. -/
def placeK (c : Dev nD) : S_.Idx → BitVec 32 :=
  muli (id (Host.remui (Host.divui (constantI S_ 32 (Dev.word c)) (constantI S_ 32 1#32)) (constantI S_ 32 32#32))) (constantI S_ 32 256#32)

/-- The same, brought into range were it negative. -/
def startK (c : Dev nD) : S_.Idx → BitVec 32 :=
  select (cmpi .slt (placeK c) (constantI S_ 32 0#32)) (addi (placeK c) (constantI S_ 32 8192#32)) (placeK c)

theorem startK_at (c : Dev nD) : (startK c (Shape.Idx.first h_S_)).toInt = 256 * (c.val : ℤ) := by
  revert c; decide +kernel

/-- The device's columns of the query weights. -/
def wqK (c : Dev nD) (wq : FVec Ideal S512x8192 .bf16) : FVec Ideal S512x256 .bf16 :=
  Host.dynamicSlice S512x256 wq (fun k => (((![constantI S_ 32 0#32, startK c] : Fin 2 → S_.Idx → BitVec 32) k) (Shape.Idx.first h_S_)).toInt) sliceFits_S512x8192_S512x256

theorem wqK_at (c : Dev nD) (wq) (n : Fin 512) (p : Fin 256) :
    wqK c wq (ix2 n p) = wq (ix2 n ⟨256 * c.val + p.val, by have := c.isLt; have : c.val < 32 := this; omega⟩) := by
  unfold wqK
  have h0 : Host.clampedStart S512x8192 S512x256 rfl (fun k => (((![constantI S_ 32 0#32, startK c] : Fin 2 → S_.Idx → BitVec 32) k) (Shape.Idx.first h_S_)).toInt) 0 = 0 :=
    Host.clampedStart_of_le _ _ _ 0 rfl (by decide)
  have h1 : Host.clampedStart S512x8192 S512x256 rfl (fun k => (((![constantI S_ 32 0#32, startK c] : Fin 2 → S_.Idx → BitVec 32) k) (Shape.Idx.first h_S_)).toInt) 1 = 256 * c.val :=
    Host.clampedStart_of_le _ _ _ (256 * c.val) ((startK_at c).trans (by push_cast; rfl)) (by
      have : c.val < 32 := c.isLt
      show 256 * c.val + 256 ≤ 8192
      omega)
  pointwise
  simp only [h0, h1, Nat.zero_add]

/-- The device's rows of the output weights. -/
def woK (c : Dev nD) (wo : FVec Ideal S8192x512 .bf16) : FVec Ideal S256x512 .bf16 :=
  Host.dynamicSlice S256x512 wo (fun k => (((![startK c, constantI S_ 32 0#32] : Fin 2 → S_.Idx → BitVec 32) k) (Shape.Idx.first h_S_)).toInt) sliceFits_S8192x512_S256x512

theorem woK_at (c : Dev nD) (wo) (p : Fin 256) (o : Fin 512) :
    woK c wo (ix2 p o) = wo (ix2 ⟨256 * c.val + p.val, by have := c.isLt; have : c.val < 32 := this; omega⟩ o) := by
  unfold woK
  have h0 : Host.clampedStart S8192x512 S256x512 rfl (fun k => (((![startK c, constantI S_ 32 0#32] : Fin 2 → S_.Idx → BitVec 32) k) (Shape.Idx.first h_S_)).toInt) 0 = 256 * c.val :=
    Host.clampedStart_of_le _ _ _ (256 * c.val) ((startK_at c).trans (by push_cast; rfl)) (by
      have : c.val < 32 := c.isLt
      show 256 * c.val + 256 ≤ 8192
      omega)
  have h1 : Host.clampedStart S8192x512 S256x512 rfl (fun k => (((![startK c, constantI S_ 32 0#32] : Fin 2 → S_.Idx → BitVec 32) k) (Shape.Idx.first h_S_)).toInt) 1 = 0 :=
    Host.clampedStart_of_le _ _ _ 0 rfl (by decide)
  pointwise
  simp only [h0, h1, Nat.zero_add]

/-- The mask. -/
def maskK : S256x256.Idx → BitVec 1 :=
  ori (ori (cmpi .sle (absi (subi (iotaInDim S256x256 32 0) (iotaInDim S256x256 32 1))) (broadcastInDim S256x256 ![] bcast_S_S256x256 (constantI S_ 32 128#32)))
      (cmpi .slt (iotaInDim S256x256 32 1) (broadcastInDim S256x256 ![] bcast_S_S256x256 (constantI S_ 32 32#32))))
    (cmpi .slt (iotaInDim S256x256 32 0) (broadcastInDim S256x256 ![] bcast_S_S256x256 (constantI S_ 32 32#32)))

theorem maskK_at (i j : Fin 256) : maskK (ix2 i j) = seen i j := by
  unfold maskK seen
  pointwise
  exact BitVec.or_assoc _ _ _

/-- The queries, head by head. -/
def queryK (x : FVec Ideal S2x256x512 .bf16) (wq : FVec Ideal S512x256 .bf16) : FVec Ideal S2x256x4x64 .bf16 :=
  shapeCast S2x256x4x64 (truncf .bf16 (Host.dotGeneral dot_S2x256x512_S512x256_S2x256x256_2_0_01_1_n_n none x wq) bitsLt_bf16_f32) shapeCasts_S2x256x256_S2x256x4x64

theorem queryK_at (x wq) (b : Fin 2) (i : Fin 256) (h : Fin 4) (e : Fin 64) :
    queryK x wq (ix4 b i h e) = ∑ k : Fin 512, x (ix3 b i k) * wq (ix2 k ⟨h.val * 64 + e.val, by omega⟩) := by
  unfold queryK
  pointwise

/-- The masked scores. -/
def scoreK (q k : FVec Ideal S2x256x4x64 .bf16) (mk : S256x256.Idx → BitVec 1) : FVec Ideal S2x4x256x256 .f32 :=
  select (broadcastInDim S2x4x256x256 ![0, 1, 2, 3] bcast_S1x1x256x256_S2x4x256x256_0_1_2_3 (broadcastInDim S1x1x256x256 ![2, 3] bcast_S256x256_S1x1x256x256_2_3 mk))
    (mulf (Host.dotGeneral dot_S2x256x4x64_S2x256x4x64_S2x4x256x256_3_3_1_1_02_02 none q k)
      (broadcastInDim S2x4x256x256 ![] bcast_S_S2x4x256x256 (constant (F := Ideal) S_ .f32 0x3E000000#32)))
    (broadcastInDim S2x4x256x256 ![] bcast_S_S2x4x256x256 (id (constant (F := Ideal) S_ .f32 0xCE6E6B28#32)))

theorem scoreK_at (q k) (b : Fin 2) (i j : Fin 256) (h : Fin 4) :
    scoreK q k maskK (ix4 b h i j) = scoreRow (fun i e => q (ix4 b i h e)) (fun j e => k (ix4 b j h e)) i j := by
  unfold scoreK scoreRow id
  pointwise
  rw [maskK_at]

/-- The exponentials. -/
def expK (s : FVec Ideal S2x4x256x256 .f32) : FVec Ideal S2x4x256x256 .f32 :=
  Host.exp (subf s (broadcastInDim S2x4x256x256 ![0, 1, 2, 3] bcast_S2x4x256x1_S2x4x256x256_0_1_2_3 (broadcastInDim S2x4x256x1 ![0, 1, 2] bcast_S2x4x256_S2x4x256x1_0_1_2
    (maximumf (broadcastInDim S2x4x256 ![] bcast_S_S2x4x256 (constant (F := Ideal) S_ .f32 0xFF800000#32))
      (Host.reduce (FloatOps.maximumf (F := Ideal)) s (constant (F := Ideal) S_ .f32 0xFF800000#32) reducesTo_S2x4x256x256_S2x4x256_d3 h_S_)))))

theorem expK_at (s) (b : Fin 2) (i j : Fin 256) (h : Fin 4) :
    expK s (ix4 b h i j) = rowExp (fun j => s (ix4 b h i j)) j := by
  unfold expK rowExp rowMax
  pointwise
  rw [max_fold]

/-- The softmax. -/
def softK (w : FVec Ideal S2x4x256x256 .f32) : FVec Ideal S2x4x256x256 .bf16 :=
  truncf .bf16 (Host.divf w (broadcastInDim S2x4x256x256 ![0, 1, 2, 3] bcast_S2x4x256x1_S2x4x256x256_0_1_2_3
    (broadcastInDim S2x4x256x1 ![0, 1, 2] bcast_S2x4x256_S2x4x256x1_0_1_2 (Host.reduceAdd w (constant (F := Ideal) S_ .f32 0x00000000#32) reducesTo_S2x4x256x256_S2x4x256_d3 h_S_)))) bitsLt_bf16_f32

theorem softK_at (w) (b : Fin 2) (i j : Fin 256) (h : Fin 4) :
    softK w (ix4 b h i j) = Ideal.div (w (ix4 b h i j)) (∑ k : Fin 256, w (ix4 b h i k)) := by
  unfold softK
  pointwise

/-- The heads' outputs, side by side. -/
def ctxK (v : FVec Ideal S2x256x4x64 .bf16) (w : FVec Ideal S2x4x256x256 .bf16) : FVec Ideal S2x256x256 .bf16 :=
  truncf .bf16 (shapeCast S2x256x256 (transpose S2x256x4x64 [0, 3, 1, 2] (Host.dotGeneral dot_S2x256x4x64_S2x4x256x256_S2x4x64x256_1_3_3_2_02_01 none v w : FVec Ideal S2x4x64x256 .f32) transposes_S2x4x64x256_S2x256x4x64_0_3_1_2) shapeCasts_S2x256x4x64_S2x256x256) bitsLt_bf16_f32

theorem ctxK_at (v w) (b : Fin 2) (i : Fin 256) (p : Fin 256) :
    ctxK v w (ix3 b i p)
      = ∑ j : Fin 256, v (ix4 b j ⟨p.val / 64, by omega⟩ ⟨p.val % 64, by omega⟩) * w (ix4 b ⟨p.val / 64, by omega⟩ i j) := by
  unfold ctxK
  pointwise

/-- The output product, laid out as the all-reduce wants it. -/
def outK (y : FVec Ideal S2x256x256 .bf16) (wo : FVec Ideal S256x512 .bf16) : FVec Ideal S512x512 .f32 :=
  shapeCast S512x512 (Host.dotGeneral dot_S2x256x256_S256x512_S2x256x512_2_0_01_1_n_n none y wo : FVec Ideal S2x256x512 .f32) shapeCasts_S2x256x512_S512x512

theorem outK_at (y wo) (b : Fin 2) (i : Fin 256) (o : Fin 512) :
    shapeCast S2x256x512 (outK y wo) shapeCasts_S512x512_S2x256x512 (ix3 b i o) = ∑ p : Fin 256, y (ix3 b i p) * wo (ix2 p o) := by
  unfold outK
  pointwise

/-- The whole partial result, of the device's arguments. -/
def wholeK (c : Dev nD) (x : FVec Ideal S2x256x512 .bf16) (wq : FVec Ideal S512x8192 .bf16) (k v : FVec Ideal S2x256x4x64 .bf16)
    (wo : FVec Ideal S8192x512 .bf16) : FVec Ideal S512x512 .f32 :=
  outK (ctxK v (softK (expK (scoreK (queryK x (wqK c wq)) k maskK)))) (woK c wo)

theorem wholeK_at (c : Dev nD) (x wq k v wo) (b : Fin 2) (i : Fin 256) (o : Fin 512) :
    shapeCast S2x256x512 (wholeK c x wq k v wo) shapeCasts_S512x512_S2x256x512 (ix3 b i o)
      = ∑ p : Fin 256, headOut
          (fun i e => ∑ n : Fin 512, x (ix3 b i n) * wq (ix2 n ⟨256 * c.val + (p.val / 64 * 64 + e.val), by have : c.val < 32 := c.isLt; omega⟩))
          (fun j e => k (ix4 b j ⟨p.val / 64, by omega⟩ e)) (fun j e => v (ix4 b j ⟨p.val / 64, by omega⟩ e)) i ⟨p.val % 64, by omega⟩
        * wo (ix2 ⟨256 * c.val + p.val, by have : c.val < 32 := c.isLt; omega⟩ o) := by
  unfold wholeK headOut rowSoft
  simp only [outK_at, ctxK_at, softK_at, expK_at, scoreK_at, queryK_at, wqK_at, woK_at]

end RingK.Part
-- ==== Proof.Operand.lean ====
/- What the host lines before the all-reduce leave in its operand. -/
module

public import proofs.«01_k».proof.Proof.Partial

@[expose] public section

noncomputable section

namespace RingK.Part

open Cert.KernelIdeal Cert.KernelIdeal.Gen Idealize.ShloMosaic Idealize.ShloMosaic.TcCoe Idealize.SL.Sem

variable (W : Valuation τ sig (Elt Ideal)) (c : Dev nD)

set_option maxRecDepth 8192

theorem line_mask : StableHlo.after (hostOps0 c) W (Proc.devRef .tc main_v33)
    = broadcastInDim S1x1x256x256 ![2, 3] bcast_S256x256_S1x1x256x256_2_3 maskK := by
  after_results_simp <;> rfl

theorem line_wo : StableHlo.after (hostOps0 c) W (Proc.devRef .tc main_v14) = woK c (W (Proc.devRef .tc main_arg4)) := by
  after_results_simp
  unfold woK
  refine congrArg (fun st => Host.dynamicSlice S256x512 _ st sliceFits_S8192x512_S256x512) (funext (Fin.forall_fin_two.mpr ⟨?_, ?_⟩))
  · refine congrArg (fun w : S_.Idx → BitVec 32 => BitVec.toInt (w (Shape.Idx.first h_S_))) ?_
    simp only [Matrix.cons_val_zero]
    after_results_simp
    rfl
  · refine congrArg (fun w : S_.Idx → BitVec 32 => BitVec.toInt (w (Shape.Idx.first h_S_))) ?_
    simp only [Matrix.cons_val_one, Matrix.cons_val_zero]
    after_results_simp
    rfl

theorem line_fill : StableHlo.after (hostOps0 c) W (Proc.devRef .tc main_cst_12) = constant (F := Ideal) S_ .f32 0xCE6E6B28#32 := by
  after_results_simp <;> rfl

/-- The scores before the mask. -/
def rawK (q k : FVec Ideal S2x256x4x64 .bf16) : FVec Ideal S2x4x256x256 .f32 :=
  mulf (Host.dotGeneral dot_S2x256x4x64_S2x256x4x64_S2x4x256x256_3_3_1_1_02_02 none q k)
    (broadcastInDim S2x4x256x256 ![] bcast_S_S2x4x256x256 (constant (F := Ideal) S_ .f32 0x3E000000#32))

theorem line_raw : StableHlo.after (hostOps0 c) W (Proc.devRef .tc main_v20)
    = rawK (queryK (W (Proc.devRef .tc main_arg0)) (wqK c (W (Proc.devRef .tc main_arg1)))) (W (Proc.devRef .tc main_arg2)) := by
  after_results_simp
  unfold wqK
  refine congrArg (fun st => rawK (queryK (W (Proc.devRef .tc main_arg0)) (Host.dynamicSlice S512x256 (W (Proc.devRef .tc main_arg1)) st sliceFits_S512x8192_S512x256))
    (W (Proc.devRef .tc main_arg2))) (funext (Fin.forall_fin_two.mpr ⟨?_, ?_⟩))
  · refine congrArg (fun w : S_.Idx → BitVec 32 => BitVec.toInt (w (Shape.Idx.first h_S_))) ?_
    simp only [Matrix.cons_val_zero]
    after_results_simp
    rfl
  · refine congrArg (fun w : S_.Idx → BitVec 32 => BitVec.toInt (w (Shape.Idx.first h_S_))) ?_
    simp only [Matrix.cons_val_one, Matrix.cons_val_zero]
    after_results_simp
    rfl

theorem line_score : StableHlo.after hostOps0_1 W (Proc.devRef .tc main_v34)
    = select (broadcastInDim S2x4x256x256 ![0, 1, 2, 3] bcast_S1x1x256x256_S2x4x256x256_0_1_2_3 (W (Proc.devRef .tc main_v33)))
        (W (Proc.devRef .tc main_v20)) (broadcastInDim S2x4x256x256 ![] bcast_S_S2x4x256x256 (id (W (Proc.devRef .tc main_cst_12)))) := by
  simp only [hostOps0_1, StableHlo.TRef.ternary, StableHlo.TRef.unary, StableHlo.TRef.toBuf, StableHlo.TRef.ofBuf, cast_eq]
  after_results_simp <;> rfl

theorem line_out : StableHlo.after hostOps0_2 W (Proc.devRef .tc main_v52)
    = outK (ctxK (W (Proc.devRef .tc main_arg3)) (softK (expK (W (Proc.devRef .tc main_v34))))) (W (Proc.devRef .tc main_v14)) := by
  after_results_simp <;> rfl

/-- What the host lines before the all-reduce leave in its operand. -/
theorem operand_eq (m : (ℓ : Loc nD τ sig) → Buf (Elt Ideal) ℓ) (c : Dev nD) :
    V3 m c (Proc.devRef .tc main_v52)
      = wholeK c (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  have h34 : V2 m c (Proc.devRef .tc main_v34)
      = scoreK (queryK (m ((c.tc : Thread nD τ).loc main_arg0)) (wqK c (m ((c.tc : Thread nD τ).loc main_arg1)))) (m ((c.tc : Thread nD τ).loc main_arg2)) maskK := by
    refine (line_score (V1 m c)).trans ?_
    rw [show V1 m c (Proc.devRef .tc main_v33) = _ from line_mask (V0 m c) c, show V1 m c (Proc.devRef .tc main_v20) = _ from line_raw (V0 m c) c,
      show V1 m c (Proc.devRef .tc main_cst_12) = _ from line_fill (V0 m c) c]
    rfl
  have h14 : V2 m c (Proc.devRef .tc main_v14) = woK c (m ((c.tc : Thread nD τ).loc main_arg4)) :=
    (V2_of m c main_v14 (by decide)).trans (line_wo (V0 m c) c)
  have h3 : V2 m c (Proc.devRef .tc main_arg3) = m ((c.tc : Thread nD τ).loc main_arg3) :=
    (V2_of m c main_arg3 (by decide)).trans ((V1_of m c main_arg3 (by decide)).trans rfl)
  refine (line_out (V2 m c)).trans ?_
  rw [h34, h14, h3]
  rfl

end RingK.Part
-- ==== Proof.Sums.lean ====
/- The ring's sum over exact arithmetic is the sum over the devices, and a sum of 8192 terms is 32 sums of 256. -/
module

public import proofs.«01_k».proof.Proof.Contents
public import Idealize.ShloMosaic.Lib.Pointwise

@[expose] public section

noncomputable section

namespace RingK

open Cert.KernelIdeal Idealize.ShloMosaic

/-- The ring's sum after `h` steps: the devices from the owner of the row on, in any order. -/
theorem ringSum_range (P : Dev nD → B512 Ideal) (i : S512x512.Idx) (h : ℕ) :
    (ringSum P h i : EReal) = ∑ t ∈ Finset.range (h + 1), (show EReal from P (dv ((i 0).val / 16 + t)) i) := by
  induction h with
  | zero => exact (Finset.sum_range_one (fun t => (show EReal from P (dv ((i 0).val / 16 + t)) i))).symm
  | succ h ih =>
    refine Eq.trans ?_ (Finset.sum_range_succ (fun t => (show EReal from P (dv ((i 0).val / 16 + t)) i)) _).symm
    rw [← ih]
    exact add_comm (show EReal from P (dv ((i 0).val / 16 + (h + 1))) i) (ringSum P h i)

/-- Going once round the ring from anywhere meets every device once. -/
theorem sum_round (f : Dev nD → EReal) (a : ℕ) : ∑ t ∈ Finset.range 32, f (dv (a + t)) = ∑ c : Dev nD, f c := by
  refine Finset.sum_bij' (fun t _ => dv (a + t)) (fun c _ => (c.val + (32 - a % 32)) % 32) ?_ ?_ ?_ ?_ ?_
  · intro t _; exact Finset.mem_univ _
  · intro c _; exact Finset.mem_range.mpr (Nat.mod_lt _ (by decide))
  · intro t ht
    have := Finset.mem_range.mp ht
    show ((a + t) % 32 + (32 - a % 32)) % 32 = t
    omega
  · intro c _
    have : c.val < 32 := c.isLt
    apply Fin.ext
    show (a + (c.val + (32 - a % 32)) % 32) % 32 = c.val
    omega
  · intro t _; rfl

theorem ringSum_full (P : Dev nD → B512 Ideal) (i : S512x512.Idx) :
    (ringSum P 31 i : EReal) = ∑ c : Dev nD, (show EReal from P c i) := by
  exact (ringSum_range P i 31).trans (sum_round (fun c => (show EReal from P c i)) _)

/-- A sum of 8192 terms, device by device. -/
theorem sum_devices (f : Fin 8192 → EReal) :
    ∑ p : Fin 8192, f p = ∑ c : Dev nD, ∑ q : Fin 256, f ⟨256 * c.val + q.val, by have : c.val < 32 := c.isLt; omega⟩ := by
  rw [← Fintype.sum_prod_type' (fun (c : Dev nD) (q : Fin 256) => f ⟨256 * c.val + q.val, by have : c.val < 32 := c.isLt; omega⟩)]
  refine Finset.sum_bij' (fun p _ => ((⟨p.val / 256, by show p.val / 256 < 32; omega⟩ : Dev nD), (⟨p.val % 256, by omega⟩ : Fin 256)))
    (fun x _ => ⟨256 * x.1.val + x.2.val, by have : x.1.val < 32 := x.1.isLt; omega⟩) ?_ ?_ ?_ ?_ ?_
  · intro p _; exact Finset.mem_univ _
  · intro x _; exact Finset.mem_univ _
  · intro p _
    apply Fin.ext
    show 256 * (p.val / 256) + p.val % 256 = p.val
    omega
  · intro x _
    have : x.1.val < 32 := x.1.isLt
    refine Prod.ext (Fin.ext ?_) (Fin.ext ?_)
    · show (256 * x.1.val + x.2.val) / 256 = x.1.val
      omega
    · show (256 * x.1.val + x.2.val) % 256 = x.2.val
      omega
  · intro p _
    congr 1
    apply Fin.ext
    show p.val = 256 * (p.val / 256) + p.val % 256
    omega

end RingK
-- ==== Proof.Value.lean ====
/- The ring's sum of the devices' partial results is the reference's result. -/
module

public import proofs.«01_k».proof.Proof.RefValue
public import proofs.«01_k».proof.Proof.Operand
public import proofs.«01_k».proof.Proof.Sums
public import proofs.«01_k».proof.Proof.Launch
public import Idealize.ShloMosaic.Lib.Layout

@[expose] public section

noncomputable section

namespace RingK

open Cert.KernelIdeal Cert.KernelIdeal.Gen Idealize.ShloMosaic

abbrev SK4 : Shape := ⟨4, ![2, 256, 4, 64]⟩
abbrev SK128 : Shape := ⟨4, ![2, 256, 128, 64]⟩

/-- A device's block of keys or values: head `h` of device `c` is head `4 c + h` of the whole. -/
theorem block_head (y : SK128.Idx → EReal) (c : Fin 32) (b : Fin 2) (j : Fin 256) (h : Fin 4) (e : Fin 64) (h' : Fin 128)
    (hh : h'.val = c.val * 4 + h.val) : Layout.block SK4 SK128 2 32 c y (by decide) (ix4 b j h e) = y (ix4 b j h' e) := by
  refine congrArg y (funext fun a => Fin.ext ?_)
  match a with
  | 0 => rfl
  | 1 => rfl
  | 2 => exact hh.symm
  | 3 => rfl

/-- A head's output depends on its queries, keys and values alone. -/
theorem head_congr {Q Q' K K' V V' : Fin 256 → Fin 64 → EReal} (hQ : Q = Q') (hK : K = K') (hV : V = V') (i : Fin 256) (d : Fin 64) :
    headOut Q K V i d = headOut Q' K' V' i d := by
  rw [hQ, hK, hV]

/-- The sum round the ring, read as the result's shape, is the whole reference. -/
theorem total_eq (x : FVec Ideal S2x256x512 .bf16) (wq : FVec Ideal S512x8192 .bf16) (wo : FVec Ideal S8192x512 .bf16)
    (k v : FVec Ideal Cert.ReferenceIdeal.S2x256x128x64 .bf16) (P : Dev nD → B512 Ideal)
    (hP : ∀ c, P c = Part.wholeK c x wq (Layout.block SK4 SK128 2 32 c k (by decide)) (Layout.block SK4 SK128 2 32 c v (by decide)) wo) :
    shapeCast S2x256x512 (ringSum P 31) shapeCasts_S512x512_S2x256x512 = Ref.wholeR x wq k v wo := by
  refine funext fun j => ?_
  obtain ⟨b, i, o, rfl⟩ : ∃ (b : Fin 2) (i : Fin 256) (o : Fin 512), j = ix3 b i o := ⟨j 0, j 1, j 2, ValueIdx.eq_ix3 j⟩
  refine @Eq.trans EReal _ _ _ (ringSum_full P _) ?_
  rw [Ref.wholeR_at, sum_devices]
  refine Finset.sum_congr rfl fun c _ => ?_
  have hc : c.val < 32 := c.isLt
  refine Eq.trans ?_ ((Part.wholeK_at c x wq (Layout.block SK4 SK128 2 32 c k (by decide))
    (Layout.block SK4 SK128 2 32 c v (by decide)) wo b i o).trans (Finset.sum_congr rfl fun p _ => ?_))
  · rw [hP c]; rfl
  · have hd : (256 * c.val + p.val) / 64 = c.val * 4 + p.val / 64 := by omega
    have hm : (256 * c.val + p.val) % 64 = p.val % 64 := by omega
    refine congrArg (· * _) ?_
    unfold Ref.headR
    simp only [hm]
    refine head_congr ?_ ?_ ?_ i _
    · refine funext fun i => funext fun e => Finset.sum_congr rfl fun n _ => ?_
      refine congrArg (fun z => _ * wq (ix2 n z)) (Fin.ext ?_)
      show 256 * c.val + (p.val / 64 * 64 + e.val) = (256 * c.val + p.val) / 64 * 64 + e.val
      omega
    · exact funext fun j => funext fun e => block_head k c b j _ e _ hd
    · exact funext fun j => funext fun e => block_head v c b j _ e _ hd

/-- Device `c`'s result buffer at the end: the reference's result of the whole arguments. -/
theorem result_eq (m : (ℓ : Loc nD τ sig) → Buf (Elt Ideal) ℓ) (x : FVec Ideal S2x256x512 .bf16) (wq : FVec Ideal S512x8192 .bf16)
    (wo : FVec Ideal S8192x512 .bf16) (k v : FVec Ideal Cert.ReferenceIdeal.S2x256x128x64 .bf16)
    (hm : ∀ c : Dev nD, m ((c.tc : Thread nD τ).loc main_arg0) = x ∧ m ((c.tc : Thread nD τ).loc main_arg1) = wq
      ∧ m ((c.tc : Thread nD τ).loc main_arg2) = Layout.block SK4 SK128 2 32 c k (by decide)
      ∧ m ((c.tc : Thread nD τ).loc main_arg3) = Layout.block SK4 SK128 2 32 c v (by decide)
      ∧ m ((c.tc : Thread nD τ).loc main_arg4) = wo) (c : Dev nD) :
    V5 m (outs m) c (Proc.devRef .tc main_v54) = Ref.wholeR x wq k v wo := by
  have h53 : V5 m (outs m) c (Proc.devRef .tc main_v54)
      = shapeCast S2x256x512 (V4 m (outs m) c (Proc.devRef .tc main_v53)) shapeCasts_S512x512_S2x256x512 := by
    after_results_simp <;> rfl
  rw [h53, V4_eq]
  have hW : Wend (V3 m) c (Proc.devRef .tc main_v53) = ringSum (opnd (V3 m)) 31 := Function.update_self ..
  rw [hW]
  refine total_eq x wq wo k v (opnd (V3 m)) fun d => ?_
  obtain ⟨h0, h1, h2, h3, h4⟩ := hm d
  refine (Part.operand_eq m d).trans ?_
  rw [h0, h1, h2, h3, h4]

end RingK
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Same
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

/-- The kernel as compiled runs, leaves its arguments and every counter as it found them. -/
theorem frame_kernel : Cert.quiescent_Kernel := fun m ρ _ => by
  have h := (θ_run (Cert.KernelIdeal.defs (F := Bits)) _ _).mono (fun r h => And.intro (fun c => (h.1 c).2) h.2) (RingK.run_main (F := Bits) m ρ)
  rw [RingK.defs_same, RingK.main_same]
  exact h

/-- The same run over exact arithmetic. -/
theorem frame_ideal : Cert.quiescent_KernelIdeal := fun m ρ _ =>
  (θ_run Cert.KernelIdeal.defs _ _).mono (fun _ h => ⟨fun c => (h.1 c).2, h.2⟩) (RingK.run_main (F := Ideal) m ρ)

/-- The reference runs: it sends nothing, so no counter moves. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- From the same arguments, whole or cut by device, every device ends with the reference's result. -/
theorem same_value : Cert.algebraic_KernelIdeal_ReferenceIdeal := fun m ρ m' ρ' _ hm =>
  ⟨Cert.ReferenceIdeal.Value.res_main_v47 m' 0,
    (θ_run Cert.KernelIdeal.defs _ _).mono (fun _ h c => ⟨(h.1 c).1.trans
      ((RingK.result_eq m _ _ _ _ _ hm c).trans (RingK.Ref.res_eq m' 0).symm), (h.1 c).2⟩) (RingK.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, same_value⟩

end Cert.Proof

end
